-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x1024 : Shape := ⟨2, ![1024, 1024]⟩
abbrev S2048x32x128 : Shape := ⟨3, ![2048, 32, 128]⟩
abbrev S_ : Shape := ⟨0, ![]⟩

class Facts : Prop where
  bcast_S_S512x1024 : S_.BroadcastsInDim S512x1024 (![] : Fin 0 → Fin S512x1024.rank)
  bcast_S_S1024x1024 : S_.BroadcastsInDim S1024x1024 (![] : Fin 0 → Fin S1024x1024.rank)
  bcast_S_S2048x32x128 : S_.BroadcastsInDim S2048x32x128 (![] : Fin 0 → Fin S2048x32x128.rank)

variable [Facts]

def fn {F : FTy → Type} [FloatOps F] (main_arg0 : FVec F S512x1024 .f32) (main_arg1 : FVec F S1024x1024 .f32) (main_arg2 : FVec F S2048x32x128 .f32) (main_arg3 : FVec F S2048x32x128 .f32) (main_arg4 : FVec F S1024x1024 .f32) : IVec S512x1024 1 × IVec S1024x1024 1 × IVec S2048x32x128 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S2048x32x128 .f32 := Host.absf main_arg2
  let main_cst_1 : FVec F S_ .f32 := constant S_ .f32 0x7F800000#32
  let main_v7 : FVec F S2048x32x128 .f32 := broadcastInDim S2048x32x128 ![] bcast_S_S2048x32x128 main_cst_1
  let main_v8 : IVec S2048x32x128 1 := cmpf .olt main_v6 main_v7
  (main_v2, main_v5, main_v8)
-- ==== Pre_finite_ReferenceIdeal.lean ====
abbrev S512x1024 : Shape := ⟨2, ![512, 1024]⟩
abbrev S1024x4096 : Shape := ⟨2, ![1024, 4096]⟩
abbrev S2048x32x128 : Shape := ⟨3, ![2048, 32, 128]⟩
abbrev S4096x1024 : Shape := ⟨2, ![4096, 1024]⟩
abbrev S_ : Shape := ⟨0, ![]⟩

class Facts : Prop where
  bcast_S_S512x1024 : S_.BroadcastsInDim S512x1024 (![] : Fin 0 → Fin S512x1024.rank)
  bcast_S_S1024x4096 : S_.BroadcastsInDim S1024x4096 (![] : Fin 0 → Fin S1024x4096.rank)
  bcast_S_S2048x32x128 : S_.BroadcastsInDim S2048x32x128 (![] : Fin 0 → Fin S2048x32x128.rank)

variable [Facts]

def fn {F : FTy → Type} [FloatOps F] (main_arg0 : FVec F S512x1024 .f32) (main_arg1 : FVec F S1024x4096 .f32) (main_arg2 : FVec F S2048x32x128 .f32) (main_arg3 : FVec F S2048x32x128 .f32) (main_arg4 : FVec F S4096x1024 .f32) : IVec S512x1024 1 × IVec S1024x4096 1 × IVec S2048x32x128 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S2048x32x128 .f32 := Host.absf main_arg2
  let main_cst_1 : FVec F S_ .f32 := constant S_ .f32 0x7F800000#32
  let main_v7 : FVec F S2048x32x128 .f32 := broadcastInDim S2048x32x128 ![] bcast_S_S2048x32x128 main_cst_1
  let main_v8 : IVec S2048x32x128 1 := cmpf .olt main_v6 main_v7
  (main_v2, main_v5, main_v8)
-- ==== Kernel.lean ====
abbrev S512x1024 : Shape := ⟨2, ![512, 1024]⟩
abbrev S1024x1024 : Shape := ⟨2, ![1024, 1024]⟩
abbrev S2048x32x128 : Shape := ⟨3, ![2048, 32, 128]⟩
abbrev S8x2048x128 : Shape := ⟨3, ![8, 2048, 128]⟩
abbrev S2x8x2048x128 : Shape := ⟨4, ![2, 8, 2048, 128]⟩
abbrev S3x128x1024 : Shape := ⟨3, ![3, 128, 1024]⟩
abbrev S128x1024 : Shape := ⟨2, ![128, 1024]⟩
abbrev S2x8 : Shape := ⟨2, ![2, 8]⟩
abbrev S3 : Shape := ⟨1, ![3]⟩
abbrev S1x1 : Shape := ⟨2, ![1, 1]⟩
abbrev S_ : Shape := ⟨0, ![]⟩
abbrev S1x1x2048x128 : Shape := ⟨4, ![1, 1, 2048, 128]⟩
abbrev S2048x128 : Shape := ⟨2, ![2048, 128]⟩
abbrev S2048x1x128 : Shape := ⟨3, ![2048, 1, 128]⟩
abbrev S1x2048x128 : Shape := ⟨3, ![1, 2048, 128]⟩
abbrev S128x128 : Shape := ⟨2, ![128, 128]⟩
abbrev S128x2048 : Shape := ⟨2, ![128, 2048]⟩
abbrev S128 : Shape := ⟨1, ![128]⟩
abbrev S128x1 : Shape := ⟨2, ![128, 1]⟩
abbrev S1x128x1024 : Shape := ⟨3, ![1, 128, 1024]⟩
abbrev S1 : Shape := ⟨1, ![1]⟩

abbrev nBuf : Space → Nat
  | .hbm => 6
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S2048x32x128, .f32⟩
  | .hbm, ⟨3, _⟩ => ⟨S2048x32x128, .f32⟩
  | .hbm, ⟨4, _⟩ => ⟨S1024x1024, .f32⟩
  | .hbm, ⟨5, _⟩ => ⟨S512x1024, .f32⟩
  | .local _ .vmem, ⟨0, _⟩ => ⟨S512x1024, .f32⟩
  | .local _ .vmem, ⟨1, _⟩ => ⟨S1024x1024, .f32⟩
  | .local _ .vmem, ⟨2, _⟩ => ⟨S1024x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S8x2048x128, .bf16⟩
  | .local _ .vmem, ⟨7, _⟩ => ⟨S8x2048x128, .bf16⟩
  | .local _ .vmem, ⟨8, _⟩ => ⟨S2x8x2048x128, .f32⟩
  | .local _ .vmem, ⟨9, _⟩ => ⟨S3x128x1024, .f32⟩
  | .local _ .vmem, ⟨10, _⟩ => ⟨S3x128x1024, .f32⟩
  | .local _ .vmem, ⟨11, _⟩ => ⟨S128x1024, .bf16⟩
  | .local _ .vmem, ⟨12, _⟩ => ⟨S3x128x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 3 → Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v10 : BitVec 32 := Scalar.muli v2 c8_i32
  let v11 : BitVec 32 := Scalar.addi v10 c0_i32
  let c0_i32_13 : BitVec 32 := 0#32
  ![0, v11.toNat, 0]
def k0_dev1 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_145 : BitVec 32 := 1#32
  let v123 : BitVec 32 := Scalar.muli v5 c1_i32_145
  let v124 : BitVec 32 := Scalar.addi c0_i32_146 v123
  v124.toNat
def k0_dev2 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_148 : BitVec 32 := 1#32
  let v125 : BitVec 32 := Scalar.muli v7 c1_i32_148
  let v126 : BitVec 32 := Scalar.addi c0_i32_149 v125
  v126.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v141 : BitVec 32 := Scalar.muli v2 c128_i32
  let v142 : Index := Scalar.indexCast v141
  let c0_158 : Index := 0#32
  ![v142.toNat, 0]
def k0_dev3 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_477 : BitVec 32 := 1#32
  let v459 : BitVec 32 := Scalar.muli v7 c1_i32_477
  let v460 : BitVec 32 := Scalar.addi c0_i32_478 v459
  v460.toNat
def k0_off3 (d0 : Dev nD) (c0_i32_484 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_483 : BitVec 32 := 4#32
  let v469 : BitVec 32 := Scalar.addi v2 c4_i32_483
  let v470 : BitVec 32 := Scalar.subi v469 c0_i32_484
  let c1_i32_485 : BitVec 32 := 1#32
  let v471 : BitVec 32 := Scalar.subi v470 c1_i32_485
  let c4_i32_486 : BitVec 32 := 4#32
  let v472 : BitVec 32 := Scalar.remsi v471 c4_i32_486
  let c128_i32_487 : BitVec 32 := 128#32
  let v473 : BitVec 32 := Scalar.muli v472 c128_i32_487
  let v474 : Index := Scalar.indexCast v473
  let c0_488 : Index := 0#32
  ![v474.toNat, 0]
def k0_dev4 (d0 : Dev nD) : Nat :=
  let c0_i32_588 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_587 : BitVec 32 := 1#32
  let v610 : BitVec 32 := Scalar.muli v7 c1_i32_587
  let v611 : BitVec 32 := Scalar.addi c0_i32_588 v610
  v611.toNat
def k0_dev5 (d0 : Dev nD) : Nat :=
  let c0_i32_698 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_697 : BitVec 32 := 1#32
  let v761 : BitVec 32 := Scalar.muli v7 c1_i32_697
  let v762 : BitVec 32 := Scalar.addi c0_i32_698 v761
  v762.toNat
def k0_off4 (d0 : Dev nD) (c1_i32_800 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v909 : BitVec 32 := Scalar.addi v2 c1_i32_800
  let c4_i32_801 : BitVec 32 := 4#32
  let v910 : BitVec 32 := Scalar.remsi v909 c4_i32_801
  let c128_i32_802 : BitVec 32 := 128#32
  let v911 : BitVec 32 := Scalar.muli v910 c128_i32_802
  let v912 : Index := Scalar.indexCast v911
  let c0_803 : Index := 0#32
  ![v912.toNat, 0]
def k0_dev6 (d0 : Dev nD) : Nat :=
  let c0_i32_810 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_809 : BitVec 32 := 1#32
  let v918 : BitVec 32 := Scalar.muli v7 c1_i32_809
  let v919 : BitVec 32 := Scalar.addi c0_i32_810 v918
  v919.toNat
def k0_dev7 (d0 : Dev nD) : Nat :=
  let c0_i32_817 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_816 : BitVec 32 := 1#32
  let v926 : BitVec 32 := Scalar.muli v5 c1_i32_816
  let v927 : BitVec 32 := Scalar.addi c0_i32_817 v926
  v927.toNat
def k0_dev8 (d0 : Dev nD) : Nat :=
  let c0_i32_824 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_823 : BitVec 32 := 1#32
  let v934 : BitVec 32 := Scalar.muli v9 c1_i32_823
  let v935 : BitVec 32 := Scalar.addi c0_i32_824 v934
  v935.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x1024 : Shape := ⟨2, ![512, 1024]⟩
abbrev S1024x4096 : Shape := ⟨2, ![1024, 4096]⟩
abbrev S2048x32x128 : Shape := ⟨3, ![2048, 32, 128]⟩
abbrev S4096x1024 : Shape := ⟨2, ![4096, 1024]⟩
abbrev S512x4096 : Shape := ⟨2, ![512, 4096]⟩
abbrev S512x32x128 : Shape := ⟨3, ![512, 32, 128]⟩
abbrev S32x512x2048 : Shape := ⟨3, ![32, 512, 2048]⟩
abbrev S_ : Shape := ⟨0, ![]⟩
abbrev S32x512 : Shape := ⟨2, ![32, 512]⟩
abbrev S32x512x1 : Shape := ⟨3, ![32, 512, 1]⟩
abbrev S32x128x512 : Shape := ⟨3, ![32, 128, 512]⟩
abbrev S512x32x1 : Shape := ⟨3, ![512, 32, 1]⟩

abbrev nBuf : Space → Nat
  | .hbm => 27
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x4096, .f32⟩
  | .hbm, ⟨2, _⟩ => ⟨S2048x32x128, .f32⟩
  | .hbm, ⟨3, _⟩ => ⟨S2048x32x128, .f32⟩
  | .hbm, ⟨4, _⟩ => ⟨S4096x1024, .f32⟩
  | .hbm, ⟨5, _⟩ => ⟨S512x4096, .f32⟩
  | .hbm, ⟨6, _⟩ => ⟨S512x32x128, .f32⟩
  | .hbm, ⟨7, _⟩ => ⟨S32x512x2048, .f32⟩
  | .hbm, ⟨8, _⟩ => ⟨S_, .f32⟩
  | .hbm, ⟨9, _⟩ => ⟨S32x512x2048, .f32⟩
  | .hbm, ⟨10, _⟩ => ⟨S32x512x2048, .f32⟩
  | .hbm, ⟨11, _⟩ => ⟨S_, .f32⟩
  | .hbm, ⟨12, _⟩ => ⟨S32x512, .f32⟩
  | .hbm, ⟨13, _⟩ => ⟨S32x512x1, .f32⟩
  | .hbm, ⟨14, _⟩ => ⟨S32x512x2048, .f32⟩
  | .hbm, ⟨15, _⟩ => ⟨S32x512x2048, .f32⟩
  | .hbm, ⟨16, _⟩ => ⟨S32x512x2048, .f32⟩
  | .hbm, ⟨17, _⟩ => ⟨S_, .f32⟩
  | .hbm, ⟨18, _⟩ => ⟨S32x512, .f32⟩
  | .hbm, ⟨19, _⟩ => ⟨S32x512x1, .f32⟩
  | .hbm, ⟨20, _⟩ => ⟨S32x128x512, .f32⟩
  | .hbm, ⟨21, _⟩ => ⟨S512x32x128, .f32⟩
  | .hbm, ⟨22, _⟩ => ⟨S512x32x1, .f32⟩
  | .hbm, ⟨23, _⟩ => ⟨S512x32x128, .f32⟩
  | .hbm, ⟨24, _⟩ => ⟨S512x32x128, .f32⟩
  | .hbm, ⟨25, _⟩ => ⟨S512x4096, .f32⟩
  | .hbm, ⟨26, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Spec.lean ====
/-
  What each buffer of the kernel holds, as plain functions of the arguments.

  Nothing here speaks of the run: these are the contents that the run's statements name.
-/
module

public import proofs.«01_k».proof.Proof.Gen.KernelIdeal
public import proofs.«01_k».proof.Proof.Gen.KernelIdeal.Skeleton
public import Idealize.ShloMosaic.Lib.ValueIdxCore

@[expose] public section

set_option maxRecDepth 8192

noncomputable section

namespace Cert.KernelIdeal.Ring

open Cert.KernelIdeal Cert.KernelIdeal.Gen
open Idealize.ShloMosaic Idealize.ShloMosaic.TcCoe Idealize.SL.Sem
open Idealize.ShloMosaic.ValueIdx

variable {F : FTy → Type} [FloatOps F]

/-! ## The ring -/

/-- The device to the right, the one to the left, and the one opposite. -/
def nxt (c : Dev nD) : Dev nD := ⟨(c.val + 1) % 4, Nat.mod_lt _ (by decide)⟩
def prv (c : Dev nD) : Dev nD := ⟨(c.val + 3) % 4, Nat.mod_lt _ (by decide)⟩
def opp (c : Dev nD) : Dev nD := ⟨(c.val + 2) % 4, Nat.mod_lt _ (by decide)⟩

theorem nxt_prv : ∀ c : Dev nD, nxt (prv c) = c := by decide
theorem prv_nxt : ∀ c : Dev nD, prv (nxt c) = c := by decide
theorem opp_opp : ∀ c : Dev nD, opp (opp c) = c := by decide
theorem opp_prv : ∀ c : Dev nD, opp (prv c) = nxt c := by decide
theorem opp_nxt : ∀ c : Dev nD, opp (nxt c) = prv c := by decide
theorem nxt_nxt : ∀ c : Dev nD, nxt (nxt c) = opp c := by decide
theorem nxt_opp : ∀ c : Dev nD, nxt (opp c) = prv c := by decide
theorem nxt_ne : ∀ c : Dev nD, nxt c ≠ prv c := by decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = prv c := Fin.ext (k0_dev7_eq c)
theorem dev8_eq (c : Dev nD) : (⟨k0_dev8 c, k0_dev8_lt c⟩ : Dev nD) = opp c := Fin.ext (k0_dev8_eq c)

/-! ## The buffers -/

abbrev xM : Memref sig .tc .vmem S512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S512x1024 .f32 := Memref.whole cc0_stg3_0
abbrev hkM : Memref sig .tc .hbm S2048x32x128 .f32 := Memref.whole main_arg2
abbrev hvM : Memref sig .tc .hbm S2048x32x128 .f32 := Memref.whole main_arg3
abbrev wqbM : Memref sig .tc .vmem S1024x1024 .bf16 := Memref.whole cc0_scratch0
abbrev wobM : Memref sig .tc .vmem S1024x1024 .bf16 := Memref.whole cc0_scratch1
abbrev kbM : Memref sig .tc .vmem S8x2048x128 .bf16 := Memref.whole cc0_scratch2
abbrev vbM : Memref sig .tc .vmem S8x2048x128 .bf16 := Memref.whole cc0_scratch3
abbrev kvM : Memref sig .tc .vmem S2x8x2048x128 .f32 := Memref.whole cc0_scratch4
abbrev sndM : Memref sig .tc .vmem S3x128x1024 .f32 := Memref.whole cc0_scratch5
abbrev rcvM : Memref sig .tc .vmem S3x128x1024 .f32 := Memref.whole cc0_scratch6
abbrev agM : Memref sig .tc .vmem S128x1024 .bf16 := Memref.whole cc0_scratch7
abbrev agrM : Memref sig .tc .vmem S3x128x1024 .bf16 := Memref.whole cc0_scratch8

/-! ## Rectangles, one family each -/

theorem inbKV (s : Fin 2) (h : Fin 8) :
    ∀ a, (![s.val, h.val, 0, 0] : Fin 4 → Nat) a + S1x1x2048x128.size a ≤ S2x8x2048x128.size a := by
  intro a; fin_cases a
  · show s.val + 1 ≤ 2; omega
  · show h.val + 1 ≤ 8; omega
  · show 0 + 2048 ≤ 2048; omega
  · show 0 + 128 ≤ 128; omega

theorem inbHead (h : Fin 8) :
    ∀ a, (![h.val, 0, 0] : Fin 3 → Nat) a + S1x2048x128.size a ≤ S8x2048x128.size a := by
  intro a; fin_cases a
  · show h.val + 1 ≤ 8; omega
  · show 0 + 2048 ≤ 2048; omega
  · show 0 + 128 ≤ 128; omega

theorem inbSlot (j : Fin 3) :
    ∀ a, (![j.val, 0, 0] : Fin 3 → Nat) a + S1x128x1024.size a ≤ S3x128x1024.size a := by
  intro a; fin_cases a
  · show j.val + 1 ≤ 3; omega
  · show 0 + 128 ≤ 128; omega
  · show 0 + 1024 ≤ 1024; omega

theorem inbSem (j : Fin 3) : ∀ a, (![j.val] : Fin 1 → Nat) a + S1.size a ≤ S3.size a := by
  intro a; fin_cases a
  show j.val + 1 ≤ 3; omega

theorem inbKvSem (s : Fin 2) (h : Fin 8) : ∀ a, (![s.val, h.val] : Fin 2 → Nat) a + S1x1.size a ≤ S2x8.size a := by
  intro a; fin_cases a
  · show s.val + 1 ≤ 2; omega
  · show h.val + 1 ≤ 8; omega

theorem inbRows (r : Fin 4) :
    ∀ a, (![128 * r.val, 0] : Fin 2 → Nat) a + S128x1024.size a ≤ S512x1024.size a := by
  intro a; fin_cases a
  · show 128 * r.val + 128 ≤ 512; omega
  · show 0 + 1024 ≤ 1024; omega

/-- One staged head of the keys (`s = 0`) or of the values (`s = 1`). -/
abbrev kvR (s : Fin 2) (h : Fin 8) : Rect S2x8x2048x128 := Rect.unit ![s.val, h.val, 0, 0] S1x1x2048x128.size (inbKV s h)
/-- One head of a cast buffer. -/
abbrev headR (h : Fin 8) : Rect S8x2048x128 := Rect.unit ![h.val, 0, 0] S1x2048x128.size (inbHead h)
/-- One slot of a three-slot buffer. -/
abbrev slotR (j : Fin 3) : Rect S3x128x1024 := Rect.unit ![j.val, 0, 0] S1x128x1024.size (inbSlot j)
/-- One block of 128 rows of the activations or of the result. -/
abbrev rowsR (r : Fin 4) : Rect S512x1024 := Rect.unit ![128 * r.val, 0] S128x1024.size (inbRows r)

/-! ## Contents -/

/-- The rows of block `r`. -/
def rowsOf (X : Vec F S512x1024 .f32) (r : Fin 4) : Vec F S128x1024 .f32 := xM.view.readAt (Elt F) (rowsR r).toLoadRect X

/-- The staged heads of device `c`: its eight heads of the keys, then of the values. -/
def kvAll (K V : Vec F S2048x32x128 .f32) (c : Dev nD) : Vec F S2x8x2048x128 .f32 := fun i =>
  if (i 0).val = 0 then K (ix3 (i 2) ⟨8 * c.val + (i 1).val, by have h1 : (i 1).val < 8 := (i 1).isLt; have := c.isLt; show _ < 32; unfold nD at *; omega⟩ (i 3))
  else V (ix3 (i 2) ⟨8 * c.val + (i 1).val, by have h1 : (i 1).val < 8 := (i 1).isLt; have := c.isLt; show _ < 32; unfold nD at *; omega⟩ (i 3))

/-- One staged head, read. -/
def kvSlot (K V : Vec F S2048x32x128 .f32) (c : Dev nD) (s : Fin 2) (h : Fin 8) : Vec F S1x1x2048x128 .f32 :=
  kvM.view.readAt (Elt F) (kvR s h).toLoadRect (kvAll K V c)

/-- One head, cast. -/
def castHead (v : Vec F S1x1x2048x128 .f32) : Vec F S1x2048x128 .bf16 := k0_pay4 v

/-- A cast buffer of which the first `n` heads are written. -/
def fill (n : ℕ) (v : Fin 8 → Vec F S1x2048x128 .bf16) (f : Vec F S8x2048x128 .bf16) : Vec F S8x2048x128 .bf16 := fun i =>
  if (i 0).val < n then v (i 0) (ix3 (0 : Fin 1) (i 1) (i 2)) else f i

/-- A three-slot buffer from its slots. -/
def slots3 (v : Fin 3 → Vec F S1x128x1024 .f32) : Vec F S3x128x1024 .f32 := fun i => v (i 0) (ix3 (0 : Fin 1) (i 1) (i 2))
def slots3b (v : Fin 3 → Vec F S128x1024 .bf16) : Vec F S3x128x1024 .bf16 := fun i => v (i 0) (ix2 (i 1) (i 2))

/-- The result from its four row blocks. -/
def rows4 (v : Fin 4 → Vec F S128x1024 .f32) : Vec F S512x1024 .f32 := fun i =>
  v ⟨(i 0).val / 128, by have h : (i 0).val < 512 := (i 0).isLt; omega⟩ (ix2 ⟨(i 0).val % 128, Nat.mod_lt _ (by decide)⟩ (i 1))

/-! ## What a device computes -/

/-- The output of one head, the query's columns `qh`. -/
def headOf (qh : FVec F S128x128 .bf16) (k v : Vec F S1x2048x128 .bf16) : FVec F S128x128 .bf16 :=
  let kk : FVec F S2048x128 .bf16 := shapeCast S2048x128 k shapeCasts_S1x2048x128_S2048x128
  let vv : FVec F S2048x128 .bf16 := shapeCast S2048x128 v shapeCasts_S1x2048x128_S2048x128
  let s : FVec F S128x2048 .f32 := matmul dot_S128x128_S2048x128_S128x2048_1_1_0_0_n_n none qh kk (constant S128x2048 .f32 0x00000000#32)
  let e : FVec F S128x2048 .f32 := exp s
  let l : FVec F S128x1 .f32 := shapeCast S128x1 (multiReduction .add [1] S128 e 0x00000000#32 reduces_S128x2048_S128 (.inl rfl) rfl) shapeCasts_S128_S128x1
  let o : FVec F S128x128 .f32 := matmul dot_S128x2048_S2048x128_S128x128_1_0_0_1_n_n none (truncf .bf16 e bitsLt_bf16_f32) vv (constant S128x128 .f32 0x00000000#32)
  truncf .bf16 (divf o (broadcastTo S128x128 l broadcasts_S128x1_S128x128)) bitsLt_bf16_f32

/-- The queries of 128 rows. -/
def queries (x : Vec F S128x1024 .f32) (wq : Vec F S1024x1024 .bf16) : FVec F S128x1024 .bf16 := k0_pay3 x wq

/-- The outputs of the eight heads, side by side. -/
def headsOf (q : FVec F S128x1024 .bf16) (k v : Fin 8 → Vec F S1x2048x128 .bf16) : FVec F S128x1024 .bf16 :=
  concatenate S128x1024 1 [
    ⟨S128x128, headOf (extractStridedSlice S128x128 ![0, 0] q slices_S128x1024_o0_0_S128x128) (k 0) (v 0)⟩,
    ⟨S128x128, headOf (extractStridedSlice S128x128 ![0, 128] q slices_S128x1024_o0_128_S128x128) (k 1) (v 1)⟩,
    ⟨S128x128, headOf (extractStridedSlice S128x128 ![0, 256] q slices_S128x1024_o0_256_S128x128) (k 2) (v 2)⟩,
    ⟨S128x128, headOf (extractStridedSlice S128x128 ![0, 384] q slices_S128x1024_o0_384_S128x128) (k 3) (v 3)⟩,
    ⟨S128x128, headOf (extractStridedSlice S128x128 ![0, 512] q slices_S128x1024_o0_512_S128x128) (k 4) (v 4)⟩,
    ⟨S128x128, headOf (extractStridedSlice S128x128 ![0, 640] q slices_S128x1024_o0_640_S128x128) (k 5) (v 5)⟩,
    ⟨S128x128, headOf (extractStridedSlice S128x128 ![0, 768] q slices_S128x1024_o0_768_S128x128) (k 6) (v 6)⟩,
    ⟨S128x128, headOf (extractStridedSlice S128x128 ![0, 896] q slices_S128x1024_o0_896_S128x128) (k 7) (v 7)⟩]
    concatenates_S128x128_S128x128_S128x128_S128x128_S128x128_S128x128_S128x128_S128x128_S128x1024_d1

/-- The projection of the heads' outputs through the device's block of the output weights. -/
def projOf (q : FVec F S128x1024 .bf16) (k v : Fin 8 → Vec F S1x2048x128 .bf16) (wo : Vec F S1024x1024 .bf16) : FVec F S128x1024 .f32 :=
  matmul dot_S128x1024_S1024x1024_S128x1024_1_0_0_1_n_n none (headsOf q k v) wo (constant S128x1024 .f32 0x00000000#32)

/-! ## The values of one launch -/

/-- The arguments' blocks on every device. -/
structure Args (F : FTy → Type) where
  x : Dev nD → Vec F S512x1024 .f32
  wq : Dev nD → Vec F S1024x1024 .f32
  wo : Dev nD → Vec F S1024x1024 .f32
  k : Dev nD → Vec F S2048x32x128 .f32
  v : Dev nD → Vec F S2048x32x128 .f32

namespace Args
variable (A : Args F)

def wqb (c : Dev nD) : Vec F S1024x1024 .bf16 := k0_pay1 (A.wq c)
def wob (c : Dev nD) : Vec F S1024x1024 .bf16 := k0_pay2 (A.wo c)
def kv (c : Dev nD) : Vec F S2x8x2048x128 .f32 := kvAll (A.k c) (A.v c) c
def kH (c : Dev nD) (h : Fin 8) : Vec F S1x2048x128 .bf16 := castHead (kvSlot (A.k c) (A.v c) c 0 h)
def vH (c : Dev nD) (h : Fin 8) : Vec F S1x2048x128 .bf16 := castHead (kvSlot (A.k c) (A.v c) c 1 h)
def q (c : Dev nD) (r : Fin 4) : FVec F S128x1024 .bf16 := queries (rowsOf (A.x c) r) (A.wqb c)
/-- Device `c`'s part of the rows of block `r`. -/
def part (c : Dev nD) (r : Fin 4) : FVec F S128x1024 .f32 := projOf (A.q c r) (A.kH c) (A.vH c) (A.wob c)

/-- What device `c` sends on to the right at step `j`: its part of its own block, then what came from the left and its part. -/
def acc : ℕ → Dev nD → Vec F S1x128x1024 .f32
  | 0, c => shapeCast S1x128x1024 (A.part c c) shapeCasts_S128x1024_S1x128x1024
  | j + 1, c => k0_pay50 (A.part c ⟨(c.val + 3 - j) % 4, Nat.mod_lt _ (by decide)⟩) (acc j (prv c))

/-- The block that device `c` ends with: rows `c + 1`, summed over the devices. -/
def fin (c : Dev nD) : Vec F S128x1024 .f32 :=
  addf (shapeCast S128x1024 (A.acc 2 (prv c)) shapeCasts_S1x128x1024_S128x1024) (A.part c (nxt c))

/-- What device `c` hands to the three others. -/
def ag (c : Dev nD) : Vec F S128x1024 .bf16 := k0_pay81 (A.fin c)

def snd (c : Dev nD) : Vec F S3x128x1024 .f32 := slots3 fun j => A.acc j.val c
def rcv (c : Dev nD) : Vec F S3x128x1024 .f32 := A.snd (prv c)
/-- Who sent what lies in slot `s`: the left, the right, the opposite device. -/
def agFrom (c : Dev nD) (s : Fin 3) : Dev nD := if s.val = 0 then prv c else if s.val = 1 then nxt c else opp c
def agr (c : Dev nD) : Vec F S3x128x1024 .bf16 := slots3b fun s => A.ag (agFrom c s)

/-- A block received, as it is stored. -/
def wide (v : Vec F S128x1024 .bf16) : FVec F S128x1024 .f32 := extf .f32 v bitsLt_bf16_f32

/-- The result on device `c`: the block `c + 1` is its own, the others came from the device before the block's. -/
def out (c : Dev nD) : Vec F S512x1024 .f32 := rows4 fun r => if r = nxt c then A.fin c else wide (A.ag (prv r))

end Args

end Cert.KernelIdeal.Ring
-- ==== Proof.Views.lean ====
/-
  The kernel's views of its buffers: which elements each covers, and what a load, a store or a landing makes of the
  contents of `Spec`.
-/
module

public import proofs.«01_k».proof.Proof.Spec
public import Idealize.ShloMosaic.Lib.Pipeline.ValueKit.Geometry
public import Idealize.ShloMosaic.Lib.ValueLayout

@[expose] public section

set_option maxRecDepth 8192

noncomputable section

namespace Cert.KernelIdeal.Ring

open Cert.KernelIdeal Cert.KernelIdeal.Gen
open Idealize.ShloMosaic Idealize.ShloMosaic.TcCoe Idealize.SL.Sem
open Idealize.ShloMosaic.ValueIdx

variable {F : FTy → Type} [FloatOps F]

/-! ## The slices that copies move -/

abbrev kvSl (s : Fin 2) (h : Fin 8) : Memref sig .tc .vmem S2048x128 .f32 :=
  (kvM.slice (kvR s h) (fun _ => rfl)).squeeze S2048x128 squeezes_S1x1x2048x128_S2048x128
abbrev hkSl (c : Dev nD) (h : Fin 8) : Memref sig .tc .hbm S2048x128 .f32 :=
  (hkM.slice (Rect.unit (s := S2048x32x128) (k0_off1 c (BitVec.ofNat 32 h.val)) S2048x1x128.size (k0_off1_inb c h)) (fun _ => rfl)).squeeze S2048x128 squeezes_S2048x1x128_S2048x128
abbrev hvSl (c : Dev nD) (h : Fin 8) : Memref sig .tc .hbm S2048x128 .f32 :=
  (hvM.slice (Rect.unit (s := S2048x32x128) (k0_off1 c (BitVec.ofNat 32 h.val)) S2048x1x128.size (k0_off1_inb c h)) (fun _ => rfl)).squeeze S2048x128 squeezes_S2048x1x128_S2048x128
abbrev sndSl (j : Fin 3) : Memref sig .tc .vmem S128x1024 .f32 :=
  (sndM.slice (slotR j) (fun _ => rfl)).squeeze S128x1024 squeezes_S1x128x1024_S128x1024
abbrev rcvSl (j : Fin 3) : Memref sig .tc .vmem S128x1024 .f32 :=
  (rcvM.slice (slotR j) (fun _ => rfl)).squeeze S128x1024 squeezes_S1x128x1024_S128x1024
abbrev agrSl (j : Fin 3) : Memref sig .tc .vmem S128x1024 .bf16 :=
  (agrM.slice (slotR j) (fun _ => rfl)).squeeze S128x1024 squeezes_S1x128x1024_S128x1024

/-! ## The elements under each -/

theorem mem_slotR (j : Fin 3) (i : S3x128x1024.Idx) : i ∈ (slotR j).set ↔ (i 0).val = j.val := by
  rw [Rect.mem_set_unit]
  have h1 : (i 1).val < 128 := (i 1).isLt
  have h2 : (i 2).val < 1024 := (i 2).isLt
  constructor
  · intro h; have := h 0
    have ha : j.val ≤ (i 0).val ∧ (i 0).val < j.val + 1 := this
    omega
  · intro h a; fin_cases a
    · show j.val ≤ (i 0).val ∧ (i 0).val < j.val + 1; omega
    · show 0 ≤ (i 1).val ∧ (i 1).val < 0 + 128; omega
    · show 0 ≤ (i 2).val ∧ (i 2).val < 0 + 1024; omega

theorem mem_headR (h : Fin 8) (i : S8x2048x128.Idx) : i ∈ (headR h).set ↔ (i 0).val = h.val := by
  rw [Rect.mem_set_unit]
  have h1 : (i 1).val < 2048 := (i 1).isLt
  have h2 : (i 2).val < 128 := (i 2).isLt
  constructor
  · intro hh; have := hh 0
    have ha : h.val ≤ (i 0).val ∧ (i 0).val < h.val + 1 := this
    omega
  · intro hh a; fin_cases a
    · show h.val ≤ (i 0).val ∧ (i 0).val < h.val + 1; omega
    · show 0 ≤ (i 1).val ∧ (i 1).val < 0 + 2048; omega
    · show 0 ≤ (i 2).val ∧ (i 2).val < 0 + 128; omega

theorem mem_kvR (s : Fin 2) (h : Fin 8) (i : S2x8x2048x128.Idx) : i ∈ (kvR s h).set ↔ (i 0).val = s.val ∧ (i 1).val = h.val := by
  rw [Rect.mem_set_unit]
  have h1 : (i 2).val < 2048 := (i 2).isLt
  have h2 : (i 3).val < 128 := (i 3).isLt
  constructor
  · intro hh
    have ha : s.val ≤ (i 0).val ∧ (i 0).val < s.val + 1 := hh 0
    have hb : h.val ≤ (i 1).val ∧ (i 1).val < h.val + 1 := hh 1
    omega
  · intro hh a; fin_cases a
    · show s.val ≤ (i 0).val ∧ (i 0).val < s.val + 1; omega
    · show h.val ≤ (i 1).val ∧ (i 1).val < h.val + 1; omega
    · show 0 ≤ (i 2).val ∧ (i 2).val < 0 + 2048; omega
    · show 0 ≤ (i 3).val ∧ (i 3).val < 0 + 128; omega

theorem mem_rowsR (r : Fin 4) (i : S512x1024.Idx) : i ∈ (rowsR r).set ↔ (i 0).val / 128 = r.val := by
  rw [Rect.mem_set_unit]
  have h2 : (i 1).val < 1024 := (i 1).isLt
  constructor
  · intro hh
    have ha : 128 * r.val ≤ (i 0).val ∧ (i 0).val < 128 * r.val + 128 := hh 0
    omega
  · intro hh a; fin_cases a
    · show 128 * r.val ≤ (i 0).val ∧ (i 0).val < 128 * r.val + 128; omega
    · show 0 ≤ (i 1).val ∧ (i 1).val < 0 + 1024; omega

theorem sndSl_set (j : Fin 3) : (sndSl j).view.set = (slotR j).set := by
  simp only [Memref.view_squeeze, View.set_reshape, Memref.view_slice, Memref.view_whole, View.set_slice_whole]
theorem rcvSl_set (j : Fin 3) : (rcvSl j).view.set = (slotR j).set := by
  simp only [Memref.view_squeeze, View.set_reshape, Memref.view_slice, Memref.view_whole, View.set_slice_whole]
theorem agrSl_set (j : Fin 3) : (agrSl j).view.set = (slotR j).set := by
  simp only [Memref.view_squeeze, View.set_reshape, Memref.view_slice, Memref.view_whole, View.set_slice_whole]
theorem kvSl_set (s : Fin 2) (h : Fin 8) : (kvSl s h).view.set = (kvR s h).set := by
  simp only [Memref.view_squeeze, View.set_reshape, Memref.view_slice, Memref.view_whole, View.set_slice_whole]

/-- Column `8 c + h` of the keys or of the values. -/
def colR (c : Dev nD) (h : Fin 8) : Finset S2048x32x128.Idx := Finset.univ.filter fun i => (i 1).val = 8 * c.val + h.val

theorem mem_off1 (c : Dev nD) (h : Fin 8) :
    (Rect.unit (s := S2048x32x128) (k0_off1 c (BitVec.ofNat 32 h.val)) S2048x1x128.size (k0_off1_inb c h)).set = colR c h := by
  ext i
  rw [Rect.mem_set_unit, k0_off1_eq, colR, Finset.mem_filter]
  have h1 : (i 0).val < 2048 := (i 0).isLt
  have h2 : (i 2).val < 128 := (i 2).isLt
  constructor
  · intro hh
    have hb : 8 * c.val + h.val ≤ (i 1).val ∧ (i 1).val < 8 * c.val + h.val + 1 := hh 1
    exact ⟨Finset.mem_univ _, by omega⟩
  · rintro ⟨-, hh⟩ a; fin_cases a
    · show 0 ≤ (i 0).val ∧ (i 0).val < 0 + 2048; omega
    · show 8 * c.val + h.val ≤ (i 1).val ∧ (i 1).val < 8 * c.val + h.val + 1; omega
    · show 0 ≤ (i 2).val ∧ (i 2).val < 0 + 128; omega

theorem hkSl_set (c : Dev nD) (h : Fin 8) : (hkSl c h).view.set = colR c h := by
  rw [← mem_off1]
  simp only [Memref.view_squeeze, View.set_reshape, Memref.view_slice, Memref.view_whole, View.set_slice_whole]
theorem hvSl_set (c : Dev nD) (h : Fin 8) : (hvSl c h).view.set = colR c h := by
  rw [← mem_off1]
  simp only [Memref.view_squeeze, View.set_reshape, Memref.view_slice, Memref.view_whole, View.set_slice_whole]

/-! ## Loads and stores of the cast heads -/

theorem headR_emb (h : Fin 8) (x : S1x2048x128.Idx) : (headR h).emb x = ix3 h (x 1) (x 2) := by
  have h0 : (x 0).val < 1 := (x 0).isLt
  funext a; refine Fin.ext ?_
  rw [ValueKit.rect_emb_unit_val]
  fin_cases a
  · show h.val + (x 0).val = h.val; omega
  · show 0 + (x 1).val = (x 1).val; omega
  · show 0 + (x 2).val = (x 2).val; omega

theorem slotR_emb (j : Fin 3) (x : S1x128x1024.Idx) : (slotR j).emb x = ix3 j (x 1) (x 2) := by
  have h0 : (x 0).val < 1 := (x 0).isLt
  funext a; refine Fin.ext ?_
  rw [ValueKit.rect_emb_unit_val]
  fin_cases a
  · show j.val + (x 0).val = j.val; omega
  · show 0 + (x 1).val = (x 1).val; omega
  · show 0 + (x 2).val = (x 2).val; omega

theorem eq_ix3_one {a b : ℕ} (x : (⟨3, ![1, a, b]⟩ : Shape).Idx) : x = ix3 (0 : Fin 1) (x 1) (x 2) := by
  have h0 : (x 0).val < 1 := (x 0).isLt
  have hx := eq_ix3 x
  have : x 0 = (0 : Fin 1) := Fin.ext (by show (x 0).val = 0; omega)
  rw [this] at hx; exact hx

theorem fill_emb (n : ℕ) (h : Fin 8) (hn : h.val < n) (v : Fin 8 → Vec F S1x2048x128 .bf16) (f : Vec F S8x2048x128 .bf16)
    (x : S1x2048x128.Idx) : fill n v f ((headR h).emb x) = v h x := by
  rw [headR_emb]; unfold fill
  rw [if_pos (show ((ix3 h (x 1) (x 2) : S8x2048x128.Idx) 0).val < n from hn)]
  exact congrArg (v h) (eq_ix3_one x).symm

theorem load_kb (n : ℕ) (h : Fin 8) (hn : h.val < n) (v : Fin 8 → Vec F S1x2048x128 .bf16) (f : Vec F S8x2048x128 .bf16) :
    kbM.view.readAt (Elt F) (headR h).toLoadRect (fill n v f) = v h := funext fun x => fill_emb n h hn v f x
theorem load_vb (n : ℕ) (h : Fin 8) (hn : h.val < n) (v : Fin 8 → Vec F S1x2048x128 .bf16) (f : Vec F S8x2048x128 .bf16) :
    vbM.view.readAt (Elt F) (headR h).toLoadRect (fill n v f) = v h := funext fun x => fill_emb n h hn v f x

theorem fill_zero (v : Fin 8 → Vec F S1x2048x128 .bf16) (f : Vec F S8x2048x128 .bf16) : fill 0 v f = f := by
  funext i; unfold fill; rw [if_neg (Nat.not_lt_zero _)]

theorem store_kb (h : Fin 8) (v : Fin 8 → Vec F S1x2048x128 .bf16) (f : Vec F S8x2048x128 .bf16) :
    (kbM.access (headR h)).write (Elt F) (fill h.val v f) (v h) Finset.univ = fill (h.val + 1) v f := by
  have hs : (kbM.access (headR h)).set = (headR h).set := View.set_slice_whole _ _
  funext i
  by_cases hi : i ∈ (kbM.access (headR h)).set
  · obtain ⟨x, -, rfl⟩ := Finset.mem_map.mp hi
    exact (View.write_emb_of_mem (v := kbM.access (headR h)) (Val := Elt F) _ _ (Finset.mem_univ x)).trans
      (fill_emb (h.val + 1) h (Nat.lt_succ_self _) v f x).symm
  · refine (View.write_of_not_mem _ _ _ (by rw [View.setOn_univ]; exact hi)).trans ?_
    have hn : ¬(i 0).val = h.val := fun e => hi (hs ▸ (mem_headR h i).mpr e)
    unfold fill
    by_cases hl : (i 0).val < h.val
    · rw [if_pos hl, if_pos (by omega)]
    · rw [if_neg hl, if_neg (by omega)]
theorem store_vb (h : Fin 8) (v : Fin 8 → Vec F S1x2048x128 .bf16) (f : Vec F S8x2048x128 .bf16) :
    (vbM.access (headR h)).write (Elt F) (fill h.val v f) (v h) Finset.univ = fill (h.val + 1) v f := by
  have hs : (vbM.access (headR h)).set = (headR h).set := View.set_slice_whole _ _
  funext i
  by_cases hi : i ∈ (vbM.access (headR h)).set
  · obtain ⟨x, -, rfl⟩ := Finset.mem_map.mp hi
    exact (View.write_emb_of_mem (v := vbM.access (headR h)) (Val := Elt F) _ _ (Finset.mem_univ x)).trans
      (fill_emb (h.val + 1) h (Nat.lt_succ_self _) v f x).symm
  · refine (View.write_of_not_mem _ _ _ (by rw [View.setOn_univ]; exact hi)).trans ?_
    have hn : ¬(i 0).val = h.val := fun e => hi (hs ▸ (mem_headR h i).mpr e)
    unfold fill
    by_cases hl : (i 0).val < h.val
    · rw [if_pos hl, if_pos (by omega)]
    · rw [if_neg hl, if_neg (by omega)]

/-! ## The slots of the sums -/

theorem load_slot (j : Fin 3) (v : Fin 3 → Vec F S1x128x1024 .f32) :
    rcvM.view.readAt (Elt F) (slotR j).toLoadRect (slots3 v) = v j := by
  funext x
  show slots3 v ((slotR j).emb x) = v j x
  rw [slotR_emb]; exact congrArg (v j) (eq_ix3_one x).symm

/-- A slot stored holds the stitched contents. -/
theorem store_snd (j : Fin 3) (v : Fin 3 → Vec F S1x128x1024 .f32) (f : Vec F S3x128x1024 .f32) :
    ∀ i ∈ (sndSl j).view.set, (sndM.access (slotR j)).write (Elt F) f (v j) Finset.univ i = slots3 v i := by
  intro i hi
  have hs : (sndM.access (slotR j)).set = (slotR j).set := View.set_slice_whole _ _
  rw [sndSl_set, ← hs] at hi
  obtain ⟨x, -, rfl⟩ := Finset.mem_map.mp hi
  refine (View.write_emb_of_mem (v := sndM.access (slotR j)) (Val := Elt F) _ _ (Finset.mem_univ x)).trans ?_
  show v j x = slots3 v ((slotR j).emb x)
  rw [slotR_emb]; exact congrArg (v j) (eq_ix3_one x)

/-- A slot of sums that lands is the sender's slot. -/
theorem land_rcv (j : Fin 3) (w f : Vec F S3x128x1024 .f32) :
    ∀ i ∈ (rcvSl j).view.set, (rcvSl j).view.write (Elt F) f ((sndSl j).view.read (Elt F) w) Finset.univ i = w i := by
  intro i hi
  obtain ⟨x, -, rfl⟩ := Finset.mem_map.mp hi
  exact View.write_emb_of_mem (v := (rcvSl j).view) (Val := Elt F) _ _ (Finset.mem_univ x)

/-- A block that lands in a slot of the gather. -/
theorem agrSl_emb (s : Fin 3) (a : Fin 128) (b : Fin 1024) : (agrSl s).view.emb (ix2 a b) = ix3 s a b := by
  have hn : S128x1024.numel = S1x128x1024.numel := by decide
  show (slotR s).emb (Shape.reshapeEquiv hn (ix2 a b)) = _
  rw [reshapeEquiv_ix2_1ab, slotR_emb]; rfl

theorem land_agr (s : Fin 3) (v : Fin 3 → Vec F S128x1024 .bf16) (f : Vec F S3x128x1024 .bf16) :
    ∀ i ∈ (agrSl s).view.set, (agrSl s).view.write (Elt F) f (v s) Finset.univ i = slots3b v i := by
  intro i hi
  obtain ⟨x, -, rfl⟩ := Finset.mem_map.mp hi
  refine (View.write_emb_of_mem (v := (agrSl s).view) (Val := Elt F) _ _ (Finset.mem_univ x)).trans ?_
  obtain ⟨a, b, rfl⟩ : ∃ (a : Fin 128) (b : Fin 1024), x = ix2 a b := ⟨_, _, eq_ix2 x⟩
  show v s (ix2 a b) = slots3b v ((agrSl s).view.emb (ix2 a b))
  rw [agrSl_emb]; rfl

theorem load_agr (s : Fin 3) (v : Fin 3 → Vec F S128x1024 .bf16) :
    k0_pay82 (agrM.view.readAt (Elt F) (slotR s).toLoadRect (slots3b v)) = Args.wide (v s) := by
  unfold k0_pay82 Args.wide
  refine congrArg (fun z => extf .f32 z bitsLt_bf16_f32) ?_
  funext x
  obtain ⟨a, b, rfl⟩ : ∃ (a : Fin 128) (b : Fin 1024), x = ix2 a b := ⟨_, _, eq_ix2 x⟩
  have hn : S128x1024.numel = S1x128x1024.numel := by decide
  show slots3b v ((slotR s).emb (Shape.reshapeEquiv hn (ix2 a b))) = v s (ix2 a b)
  rw [reshapeEquiv_ix2_1ab, slotR_emb]; rfl

/-! ## The staged heads -/

theorem hk_emb (c : Dev nD) (h : Fin 8) (a : Fin 2048) (b : Fin 128) :
    (hkSl c h).view.emb (ix2 a b) = ix3 a (⟨8 * c.val + h.val, by have := c.isLt; have := h.isLt; unfold nD at *; omega⟩ : Fin 32) b := by
  have hn : S2048x128.numel = S2048x1x128.numel := by decide
  have he : Shape.reshapeEquiv hn (ix2 a b) = ix3 a (0 : Fin 1) b := by
    refine Shape.reshapeEquiv_eq_of_rowMajor _ ?_
    rw [Shape.rowMajor_val_three, Shape.rowMajor_val_two]
    show (a.val * 1 + 0) * 128 + b.val = a.val * 128 + b.val
    omega
  show (Rect.unit (s := S2048x32x128) (k0_off1 c (BitVec.ofNat 32 h.val)) S2048x1x128.size (k0_off1_inb c h)).emb
    (Shape.reshapeEquiv hn (ix2 a b)) = _
  rw [he]
  funext d; refine Fin.ext ?_
  refine (ValueKit.rect_emb_unit_val _ _ _ _ d).trans ?_
  refine (congrArg (fun o : Fin 3 → ℕ => o d + ((ix3 a (0 : Fin 1) b : S2048x1x128.Idx) d).val) (k0_off1_eq c h)).trans ?_
  fin_cases d
  · show 0 + a.val = a.val; omega
  · show 8 * c.val + h.val + 0 = 8 * c.val + h.val; omega
  · show 0 + b.val = b.val; omega

theorem kv_emb (s : Fin 2) (h : Fin 8) (a : Fin 2048) (b : Fin 128) : (kvSl s h).view.emb (ix2 a b) = ix4 s h a b := by
  have hn : S2048x128.numel = S1x1x2048x128.numel := by decide
  show (kvR s h).emb (Shape.reshapeEquiv hn (ix2 a b)) = _
  rw [reshapeEquiv_ix2_11ab]
  funext d; refine Fin.ext ?_
  rw [ValueKit.rect_emb_unit_val]
  fin_cases d
  · show s.val + 0 = s.val; omega
  · show h.val + 0 = h.val; omega
  · show 0 + a.val = a.val; omega
  · show 0 + b.val = b.val; omega

/-- A head of the keys that lands. -/
theorem land_k (c : Dev nD) (h : Fin 8) (K V : Vec F S2048x32x128 .f32) (f : Vec F S2x8x2048x128 .f32) :
    ∀ i ∈ (kvSl 0 h).view.set, (kvSl 0 h).view.write (Elt F) f ((hkSl c h).view.read (Elt F) K) Finset.univ i = kvAll K V c i := by
  intro i hi
  obtain ⟨x, -, rfl⟩ := Finset.mem_map.mp hi
  refine (View.write_emb_of_mem (v := (kvSl 0 h).view) (Val := Elt F) _ _ (Finset.mem_univ x)).trans ?_
  obtain ⟨a, b, rfl⟩ : ∃ (a : Fin 2048) (b : Fin 128), x = ix2 a b := ⟨_, _, eq_ix2 x⟩
  show K ((hkSl c h).view.emb (ix2 a b)) = kvAll K V c ((kvSl 0 h).view.emb (ix2 a b))
  rw [kv_emb, hk_emb]; exact (if_pos rfl).symm

/-- A head of the values that lands. -/
theorem land_v (c : Dev nD) (h : Fin 8) (K V : Vec F S2048x32x128 .f32) (f : Vec F S2x8x2048x128 .f32) :
    ∀ i ∈ (kvSl 1 h).view.set, (kvSl 1 h).view.write (Elt F) f ((hvSl c h).view.read (Elt F) V) Finset.univ i = kvAll K V c i := by
  intro i hi
  obtain ⟨x, -, rfl⟩ := Finset.mem_map.mp hi
  refine (View.write_emb_of_mem (v := (kvSl 1 h).view) (Val := Elt F) _ _ (Finset.mem_univ x)).trans ?_
  obtain ⟨a, b, rfl⟩ : ∃ (a : Fin 2048) (b : Fin 128), x = ix2 a b := ⟨_, _, eq_ix2 x⟩
  show V ((hkSl c h).view.emb (ix2 a b)) = kvAll K V c ((kvSl 1 h).view.emb (ix2 a b))
  rw [kv_emb, hk_emb]; exact (if_neg (show ¬((1 : ℕ) = 0) by decide)).symm

/-! ## The row blocks -/

theorem load_rows (off : Fin 2 → ℕ) (r : Fin 4) (ho : off = ![128 * r.val, 0]) (inb) (X : Vec F S512x1024 .f32) :
    xM.view.readAt (Elt F) (Rect.unit (s := S512x1024) off S128x1024.size inb).toLoadRect X = rowsOf X r := by
  subst ho; rfl

/-- The result after the block of rows `r` is stored. -/
theorem store_rows (off : Fin 2 → ℕ) (r : Fin 4) (ho : off = ![128 * r.val, 0]) (inb) (f : Vec F S512x1024 .f32) (w : Vec F S128x1024 .f32)
    (i : S512x1024.Idx) :
    (outM.access (Rect.unit (s := S512x1024) off S128x1024.size inb)).write (Elt F) f w Finset.univ i
      = if (i 0).val / 128 = r.val then rows4 (fun _ => w) i else f i := by
  subst ho
  have hs : (outM.access (rowsR r)).set = (rowsR r).set := View.set_slice_whole _ _
  by_cases hi : i ∈ (outM.access (rowsR r)).set
  · rw [if_pos ((mem_rowsR r i).mp (hs ▸ hi))]
    obtain ⟨x, -, rfl⟩ := Finset.mem_map.mp hi
    refine (View.write_emb_of_mem (v := outM.access (rowsR r)) (Val := Elt F) _ _ (Finset.mem_univ x)).trans ?_
    show w x = w (ix2 _ _)
    refine congrArg w ((eq_ix2 x).trans ?_)
    have h0 : (x 0).val < 128 := (x 0).isLt
    have e0 : ((rowsR r).emb x 0 : ℕ) = 128 * r.val + (x 0).val := ValueKit.rect_emb_unit_val _ _ _ x 0
    have e1 : ((rowsR r).emb x 1 : ℕ) = 0 + (x 1).val := ValueKit.rect_emb_unit_val _ _ _ x 1
    congr 1
    · refine Fin.ext ?_
      show (x 0).val = ((rowsR r).emb x 0 : ℕ) % 128
      rw [e0]; omega
    · refine Fin.ext ?_
      show (x 1).val = ((rowsR r).emb x 1 : ℕ)
      rw [e1]; omega
  · rw [if_neg (fun h => hi (hs ▸ (mem_rowsR r i).mpr h))]
    exact View.write_of_not_mem _ _ _ (by rw [View.setOn_univ]; exact hi)

end Cert.KernelIdeal.Ring
-- ==== Proof.Proto.lean ====
/-
  The protocol of the four devices: the resource algebra, the semaphores' cells and their schedule, who owes what, the
  levels, and the resources that the run's steps name.

  Every cell has one round. A device's barrier cell has two duties: `false`, paid by the device to the left, which hands
  over its slots 1 and 2 of the gather, and `true`, paid by the device to the right, which hands over its three slots for
  sums and its slot 0 of the gather. A copy's cell has one duty: on the sender the source comes back, on the receiver the
  slot with what was sent. The first sum that lands on a device carries beside it slot 2 of the gather of the device
  opposite, which the device to the left was handed and cannot use.
-/
module

public import proofs.«01_k».proof.Proof.Views
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 8192

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

/-! ## The resource algebra: the pipeline's rounds, the ring's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb (U := UU)

omit [FloatOps F] in
instance ER_landsIn : (ER : Emb UB 𝕄).LandsIn (upEmb : UEmb _ 𝕄) := by unfold ER embR; infer_instance

abbrev 𝒱₀ : Variants := Variants.none

/-- The weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The semaphores -/

abbrev barS : Sem sig := (SemArray.scalar (sig.barrier 0 rfl) : Sems sig S_).sem
abbrev kvS (s : Fin 2) (h : Fin 8) : DmaSem sig :=
  ((cc0_scratch9.slice (Rect.unit (s := S2x8) ![s.val, h.val] S1x1.size (inbKvSem s h))).squeeze S_ squeezes_S1x1_S_).sem
abbrev sndS (j : Fin 3) : DmaSem sig := ((cc0_scratch10.slice (Rect.unit (s := S3) ![j.val] S1.size (inbSem j))).squeeze S_ squeezes_S1_S_).sem
abbrev rcvS (j : Fin 3) : DmaSem sig := ((cc0_scratch11.slice (Rect.unit (s := S3) ![j.val] S1.size (inbSem j))).squeeze S_ squeezes_S1_S_).sem
abbrev gsS (j : Fin 3) : DmaSem sig := ((cc0_scratch12.slice (Rect.unit (s := S3) ![j.val] S1.size (inbSem j))).squeeze S_ squeezes_S1_S_).sem
abbrev grS (j : Fin 3) : DmaSem sig := ((cc0_scratch13.slice (Rect.unit (s := S3) ![j.val] S1.size (inbSem j))).squeeze S_ squeezes_S1_S_).sem

abbrev barC (c : Dev nD) : GSem nD τ sig := ((c : Thread nD τ), .reg barS)
abbrev sndC (c : Dev nD) (j : Fin 3) : GSem nD τ sig := ((c : Thread nD τ), .dma (sndS j))
abbrev rcvC (c : Dev nD) (j : Fin 3) : GSem nD τ sig := ((c : Thread nD τ), .dma (rcvS j))
abbrev gsC (c : Dev nD) (j : Fin 3) : GSem nD τ sig := ((c : Thread nD τ), .dma (gsS j))
abbrev grC (c : Dev nD) (j : Fin 3) : GSem nD τ sig := ((c : Thread nD τ), .dma (grS j))

/-- What a semaphore is for. -/
inductive Role
  | other | bar | snd (j : Fin 3) | rcv (j : Fin 3) | gs (j : Fin 3) | gr (j : Fin 3)
deriving DecidableEq

def dmaRole (n : ℕ) : Role :=
  if n < 20 then .other
  else if n < 23 then .snd ⟨(n - 20) % 3, Nat.mod_lt _ (by decide)⟩
  else if n < 26 then .rcv ⟨(n - 23) % 3, Nat.mod_lt _ (by decide)⟩
  else if n < 29 then .gs ⟨(n - 26) % 3, Nat.mod_lt _ (by decide)⟩
  else .gr ⟨(n - 29) % 3, Nat.mod_lt _ (by decide)⟩

def role (s : SemLoc sig) : Role :=
  match s with
  | .reg r => .bar
  | .dma q => dmaRole q.val

theorem role_bar : role (.reg barS) = .bar := rfl
theorem role_kv : ∀ (s : Fin 2) (h : Fin 8), role (.dma (kvS s h)) = .other := by decide
theorem role_snd : ∀ j : Fin 3, role (.dma (sndS j)) = .snd j := by decide
theorem role_rcv : ∀ j : Fin 3, role (.dma (rcvS j)) = .rcv j := by decide
theorem role_gs : ∀ j : Fin 3, role (.dma (gsS j)) = .gs j := by decide
theorem role_gr : ∀ j : Fin 3, role (.dma (grS j)) = .gr j := by decide

/-! ## Amounts -/

abbrev NK : ℕ := (kvSl 0 0).view.dmaCredit
abbrev NR : ℕ := (rcvSl 0).view.dmaCredit
abbrev NG : ℕ := agM.view.dmaCredit
theorem NK_pos : 0 < NK := View.dmaCredit_pos _ (by decide)
theorem NR_pos : 0 < NR := View.dmaCredit_pos _ (by decide)
theorem NG_pos : 0 < NG := View.dmaCredit_pos _ (by decide)

/-! ## Ownership of the slots -/

def sndPts (c : Dev nD) (j : Fin 3) (f : Vec F S3x128x1024 .f32) : sProp 𝕄 :=
  (sndSl j).view.loc (c : Thread nD τ) ↦[(sndSl j).view.set]{fullShare} (f : Buf (Elt F) ((sndSl j).view.loc (c : Thread nD τ)))
def rcvPts (c : Dev nD) (j : Fin 3) (f : Vec F S3x128x1024 .f32) : sProp 𝕄 :=
  (rcvSl j).view.loc (c : Thread nD τ) ↦[(rcvSl j).view.set]{fullShare} (f : Buf (Elt F) ((rcvSl j).view.loc (c : Thread nD τ)))
def agrPts (c : Dev nD) (j : Fin 3) (f : Vec F S3x128x1024 .bf16) : sProp 𝕄 :=
  (agrSl j).view.loc (c : Thread nD τ) ↦[(agrSl j).view.set]{fullShare} (f : Buf (Elt F) ((agrSl j).view.loc (c : Thread nD τ)))
def agPts (c : Dev nD) (q : PosShare TreeShare) (f : Vec F S128x1024 .bf16) : sProp 𝕄 :=
  agM.view.loc (c : Thread nD τ) ↦[agM.view.set]{q} (f : Buf (Elt F) (agM.view.loc (c : Thread nD τ)))

/-- The three shares of the gathered block, one for each copy that reads it. -/
def agShare (s : Fin 3) : PosShare TreeShare :=
  if s.val = 0 then fullShare.left else if s.val = 1 then fullShare.right.left else fullShare.right.right

omit [FloatOps F] in
instance sndPts_storable (c : Dev nD) (j) (f) : BI.Storable (upEmb : UEmb _ 𝕄) (sndPts (F := F) c j f) := by unfold sndPts; infer_instance
omit [FloatOps F] in
instance rcvPts_storable (c : Dev nD) (j) (f) : BI.Storable (upEmb : UEmb _ 𝕄) (rcvPts (F := F) c j f) := by unfold rcvPts; infer_instance
omit [FloatOps F] in
instance agrPts_storable (c : Dev nD) (j) (f) : BI.Storable (upEmb : UEmb _ 𝕄) (agrPts (F := F) c j f) := by unfold agrPts; infer_instance
omit [FloatOps F] in
instance agPts_storable (c : Dev nD) (q) (f) : BI.Storable (upEmb : UEmb _ 𝕄) (agPts (F := F) c q f) := by unfold agPts; infer_instance

/-! ## The schedule -/

variable (A : Args F)

/-- What the device to the right hands `c` at the barrier. -/
def barPayR (c : Dev nD) : sProp 𝕄 :=
  iprop((∃ f, rcvPts (nxt c) 0 f) ∗ (∃ f, rcvPts (nxt c) 1 f) ∗ (∃ f, rcvPts (nxt c) 2 f) ∗ ∃ f, agrPts (nxt c) 0 f)
/-- What the device to the left hands `c` at the barrier. -/
def barPayL (c : Dev nD) : sProp 𝕄 := iprop((∃ f, agrPts (prv c) 1 f) ∗ ∃ f, agrPts (prv c) 2 f)
/-- What a sum's landing hands `c`: the slot and, with the first, slot 2 of the gather of the device opposite. -/
def rcvPay (c : Dev nD) (j : Fin 3) : sProp 𝕄 :=
  iprop(rcvPts c j (A.rcv c) ∗ if j.val = 0 then iprop(∃ f, agrPts (F := F) (opp c) 2 f) else iprop(emp))

def pay (c : Dev nD) (d : Bool) : Role → sProp 𝕄
  | .other => iprop(emp)
  | .bar => if d then barPayR c else barPayL c
  | .snd j => sndPts c j (A.snd c)
  | .rcv j => rcvPay A c j
  | .gs s => agPts c (agShare s) (A.ag c)
  | .gr s => agrPts c s (A.agr c)

def rDuties : Role → Finset Bool
  | .other => ∅
  | .bar => Finset.univ
  | _ => {false}

def rAmount : Role → ℕ
  | .other => 1
  | .bar => 1
  | .snd _ => NR
  | .rcv _ => NR
  | .gs _ => NG
  | .gr _ => NG

theorem rAmount_pos (r : Role) : 0 < rAmount r := by
  cases r <;> first | exact Nat.one_pos | exact NR_pos | exact NG_pos

def Rd : Rounds.Schedule (GSem nD τ sig) Bool 𝕄 where
  duties g r := if r = 0 ∧ g.1.2 = .tc then rDuties (role g.2) else ∅
  unitless _ := False
  amount g _ _ := rAmount (role g.2)
  payload g _ d := pay A g.1.1 d (role g.2)
  amount_pos g _ _ _ := rAmount_pos _

instance Rd_storable (g : GSem nD τ sig) (r : ℕ) (d : Bool) : BI.Storable (upEmb : UEmb _ 𝕄) ((Rd A).payload g r d) := by
  show BI.Storable upEmb (pay A g.1.1 d (role g.2))
  unfold pay rcvPay barPayR barPayL
  (repeat' split) <;> infer_instance

section Tables
variable (c : Dev nD) (j : Fin 3) (d : Bool)

theorem duties_bar : (Rd A).duties (barC c) 0 = Finset.univ := by dsimp only [Rd]; rw [if_pos ⟨rfl, rfl⟩, role_bar]; rfl
theorem duties_snd : (Rd A).duties (sndC c j) 0 = {false} := by dsimp only [Rd]; rw [if_pos ⟨rfl, rfl⟩, role_snd]; rfl
theorem duties_rcv : (Rd A).duties (rcvC c j) 0 = {false} := by dsimp only [Rd]; rw [if_pos ⟨rfl, rfl⟩, role_rcv]; rfl
theorem duties_gs : (Rd A).duties (gsC c j) 0 = {false} := by dsimp only [Rd]; rw [if_pos ⟨rfl, rfl⟩, role_gs]; rfl
theorem duties_gr : (Rd A).duties (grC c j) 0 = {false} := by dsimp only [Rd]; rw [if_pos ⟨rfl, rfl⟩, role_gr]; rfl
theorem duties_later (g : GSem nD τ sig) : ∀ r, 1 ≤ r → (Rd A).duties g r = ∅ :=
  fun r hr => by dsimp only [Rd]; rw [if_neg fun h => by omega]

theorem amount_bar : (Rd A).amount (barC c) 0 d = 1 := rfl
theorem amount_snd : (Rd A).amount (sndC c j) 0 d = NR := by dsimp only [Rd]; rw [role_snd]; rfl
theorem amount_rcv : (Rd A).amount (rcvC c j) 0 d = NR := by dsimp only [Rd]; rw [role_rcv]; rfl
theorem amount_gs : (Rd A).amount (gsC c j) 0 d = NG := by dsimp only [Rd]; rw [role_gs]; rfl
theorem amount_gr : (Rd A).amount (grC c j) 0 d = NG := by dsimp only [Rd]; rw [role_gr]; rfl

theorem expect_bar : (Rd A).expect (barC c) 0 = 2 := by
  unfold Schedule.expect Schedule.amountOf
  rw [duties_bar, Finset.sum_congr rfl fun d _ => amount_bar A c d, Finset.sum_const, Finset.card_univ, Fintype.card_bool, smul_eq_mul]
theorem expect_snd : (Rd A).expect (sndC c j) 0 = NR := by
  unfold Schedule.expect Schedule.amountOf; rw [duties_snd, Finset.sum_singleton, amount_snd]
theorem expect_rcv : (Rd A).expect (rcvC c j) 0 = NR := by
  unfold Schedule.expect Schedule.amountOf; rw [duties_rcv, Finset.sum_singleton, amount_rcv]
theorem expect_gs : (Rd A).expect (gsC c j) 0 = NG := by
  unfold Schedule.expect Schedule.amountOf; rw [duties_gs, Finset.sum_singleton, amount_gs]
theorem expect_gr : (Rd A).expect (grC c j) 0 = NG := by
  unfold Schedule.expect Schedule.amountOf; rw [duties_gr, Finset.sum_singleton, amount_gr]

theorem payload_barR : (Rd A).payload (barC c) 0 true = barPayR c := rfl
theorem payload_barL : (Rd A).payload (barC c) 0 false = barPayL c := rfl
theorem payload_snd : (Rd A).payload (sndC c j) 0 d = sndPts c j (A.snd c) := by dsimp only [Rd]; rw [role_snd]; rfl
theorem payload_rcv : (Rd A).payload (rcvC c j) 0 d = rcvPay A c j := by dsimp only [Rd]; rw [role_rcv]; rfl
theorem payload_gs : (Rd A).payload (gsC c j) 0 d = agPts c (agShare j) (A.ag c) := by dsimp only [Rd]; rw [role_gs]; rfl
theorem payload_gr : (Rd A).payload (grC c j) 0 d = agrPts c j (A.agr c) := by dsimp only [Rd]; rw [role_gr]; rfl

theorem rest_bar : bigSep ((Rd A).duties (barC c) 0 \ ∅) (fun d => (Rd A).payload (barC c) 0 d) = iprop(barPayL c ∗ barPayR c) := by
  rw [Finset.sdiff_empty, duties_bar, bigSep_univ_eq_bigSepL [false, true] (by decide) (by decide), bigSepL_cons_cons, bigSepL_singleton,
    payload_barL, payload_barR]
  rfl
theorem rest_snd : bigSep ((Rd A).duties (sndC c j) 0 \ ∅) (fun d => (Rd A).payload (sndC c j) 0 d) = sndPts c j (A.snd c) := by
  rw [Finset.sdiff_empty, duties_snd, bigSep_singleton, payload_snd]
theorem rest_rcv : bigSep ((Rd A).duties (rcvC c j) 0 \ ∅) (fun d => (Rd A).payload (rcvC c j) 0 d) = rcvPay A c j := by
  rw [Finset.sdiff_empty, duties_rcv, bigSep_singleton, payload_rcv]
theorem rest_gs : bigSep ((Rd A).duties (gsC c j) 0 \ ∅) (fun d => (Rd A).payload (gsC c j) 0 d) = agPts c (agShare j) (A.ag c) := by
  rw [Finset.sdiff_empty, duties_gs, bigSep_singleton, payload_gs]
theorem rest_gr : bigSep ((Rd A).duties (grC c j) 0 \ ∅) (fun d => (Rd A).payload (grC c j) 0 d) = agrPts c j (A.agr c) := by
  rw [Finset.sdiff_empty, duties_gr, bigSep_singleton, payload_gr]

end Tables

/-! ## What each device owes, and the levels -/

/-- What is owed from the last transfer back to the launch: the body peels the last summand at each payment. -/
def P1 (c : Dev nD) : CellTallies nD τ sig Unit := tallyAt (grC (opp c) 2) () NG
def P2 (c : Dev nD) : CellTallies nD τ sig Unit := P1 c + tallyAt (grC (prv c) 1) () NG
def P3 (c : Dev nD) : CellTallies nD τ sig Unit := P2 c + tallyAt (grC (nxt c) 0) () NG
def P4 (c : Dev nD) : CellTallies nD τ sig Unit := P3 c + tallyAt (rcvC (nxt c) 2) () NR
def P5 (c : Dev nD) : CellTallies nD τ sig Unit := P4 c + tallyAt (rcvC (nxt c) 1) () NR
def P6 (c : Dev nD) : CellTallies nD τ sig Unit := P5 c + tallyAt (rcvC (nxt c) 0) () NR
def P7 (c : Dev nD) : CellTallies nD τ sig Unit := P6 c + tallyAt (barC (nxt c)) () 1
def O₀ (c : Dev nD) : CellTallies nD τ sig Unit := P7 c + tallyAt (barC (prv c)) () 1

def L (g : GSem nD τ sig) : Finset Unit := if g.1.2 = .tc then {()} else ∅
def rLevel : Role → ℕ
  | .bar => 1
  | .rcv j => 2 + j.val
  | .gr _ => 5
  | _ => 0
def lv (g : GSem nD τ sig) (_ : Unit) : ℕ := rLevel (role g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed lies above the level `b`. -/
def Above (b : ℕ) (O : CellTallies nD τ sig Unit) : Prop := ∀ g u, 0 < O g u → g.1.2 = .tc ∧ b < lv g u

theorem above_zero (b : ℕ) : Above b 0 := fun g u h => absurd h (Nat.lt_irrefl 0)

theorem above_tally {b : ℕ} {c : Dev nD} {sm : SemLoc sig} {n : ℕ} (hl : b < rLevel (role sm)) :
    Above b (tallyAt ((c : Thread nD τ), sm) () n) := by
  intro g u h
  rw [tallyAt_apply] at h
  by_cases hg : g = ((c : Thread nD τ), sm) ∧ u = ()
  · rw [hg.1]; exact ⟨rfl, hl⟩
  · rw [if_neg hg] at h; exact absurd h (Nat.lt_irrefl 0)

theorem above_add {b : ℕ} {O O' : CellTallies nD τ sig Unit} (h : Above b O) (h' : Above b O') : Above b (O + O') := by
  intro g u hp
  rw [Pi.add_apply, Finsupp.add_apply] at hp
  by_cases h0 : 0 < O g u
  · exact h g u h0
  · exact h' g u (by omega)

theorem Above.mono {b b' : ℕ} {O : CellTallies nD τ sig Unit} (h : Above b O) (hb : b' ≤ b) : Above b' O :=
  fun g u hp => ⟨(h g u hp).1, lt_of_le_of_lt hb (h g u hp).2⟩

theorem above_P3 (c : Dev nD) : Above 4 (P3 c) := by
  unfold P3 P2 P1
  refine above_add (above_add (above_tally ?_) (above_tally ?_)) (above_tally ?_) <;> rw [role_gr] <;> decide
theorem above_P4 (c : Dev nD) : Above 3 (P4 c) := by
  unfold P4; refine above_add ((above_P3 c).mono (by decide)) (above_tally ?_); rw [role_rcv]; decide
theorem above_P5 (c : Dev nD) : Above 2 (P5 c) := by
  unfold P5; refine above_add ((above_P4 c).mono (by decide)) (above_tally ?_); rw [role_rcv]; decide
theorem above_P6 (c : Dev nD) : Above 1 (P6 c) := by
  unfold P6; refine above_add ((above_P5 c).mono (by decide)) (above_tally ?_); rw [role_rcv]; decide
theorem above_O₀ (c : Dev nD) : Above 0 (O₀ c) := by
  unfold O₀ P7
  refine above_add (above_add ((above_P6 c).mono (by decide)) (above_tally ?_)) (above_tally ?_) <;> rw [role_bar] <;> decide

omit [FloatOps F] in
/-- A wait at or below everything owed. -/
theorem mayWait (c : Dev nD) (sm : SemLoc sig) (b : ℕ) {O : CellTallies nD τ sig Unit} (hO : Above b O) (hs : rLevel (role sm) ≤ b) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- What `c` owes, whatever it has waited on. -/
def owe (c : Dev nD) (O : CellTallies nD τ sig Unit) : sProp 𝕄 := iprop(∃ W, owes (c : Thread nD τ) O W)

end Cert.KernelIdeal.Ring
-- ==== Proof.Steps.lean ====
/-
  The steps of the run, one rule for each kind: a head's copy and its wait, a head's load and store, the two signals and
  the barrier's wait, a sum's transfer and the gather's, and their waits.
-/
module

public import proofs.«01_k».proof.Proof.Proto

@[expose] public section

set_option maxRecDepth 8192

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (A : Args F)

/-! ## What every device knows -/

/-- A cell of the protocol: `none` the barrier's, `some (k, j)` the `j`th of the sends (0), receives (1), and of the gather's sends (2)
    and receives (3). -/
abbrev CI : Type := Option (Fin 4 × Fin 3)
def csem : CI → SemLoc sig
  | none => .reg barS
  | some (0, j) => .dma (sndS j)
  | some (1, j) => .dma (rcvS j)
  | some (2, j) => .dma (gsS j)
  | some (3, j) => .dma (grS j)
def kcell (p : Dev nD × CI) : GSem nD τ sig := ((p.1 : Thread nD τ), csem p.2)

/-- All cells' invariants, that every cell is at its first round, and the levels. -/
def known (K : Dev nD × CI → ℕ) : sProp 𝕄 :=
  iprop((bigSep Finset.univ fun p : Dev nD × CI => cellInv ER (Rd A) (K p) (kcell p))
    ∗ (bigSep Finset.univ fun p : Dev nD × CI => reached ER (kcell p) 0) ∗ levAts L lv)

instance known_persistent (K : Dev nD × CI → ℕ) : BI.Persistent (known A K) := by unfold known; infer_instance

variable (K : Dev nD × CI → ℕ)

theorem known_inv (p : Dev nD × CI) : known A K ⊢ cellInv ER (Rd A) (K p) (kcell p) := by
  unfold known
  iintro ⟨#H, -, -⟩
  have h : (bigSep Finset.univ fun p : Dev nD × CI => (cellInv ER (Rd A) (K p) (kcell p) : sProp 𝕄)) ⊢ cellInv ER (Rd A) (K p) (kcell p) :=
    bigSep_elim (Finset.mem_univ p)
  iapply h; iexact H
theorem known_reached (p : Dev nD × CI) : known A K ⊢ reached ER (kcell p) 0 := by
  unfold known
  iintro ⟨-, #H, -⟩
  have h : (bigSep Finset.univ fun p : Dev nD × CI => (reached ER (kcell p) 0 : sProp 𝕄)) ⊢ reached ER (kcell p) 0 :=
    bigSep_elim (Finset.mem_univ p)
  iapply h; iexact H
theorem known_lev : known A K ⊢ levAts L lv := by
  unfold known; iintro ⟨-, -, #H⟩; iexact H

/-! ## The heads' copies -/

def hkPts (c : Dev nD) (h : Fin 8) : sProp 𝕄 :=
  (hkSl c h).view.loc (c : Thread nD τ) ↦[(hkSl c h).view.set]{fullShare} (A.k c : Buf (Elt F) ((hkSl c h).view.loc (c : Thread nD τ)))
def hvPts (c : Dev nD) (h : Fin 8) : sProp 𝕄 :=
  (hvSl c h).view.loc (c : Thread nD τ) ↦[(hvSl c h).view.set]{fullShare} (A.v c : Buf (Elt F) ((hvSl c h).view.loc (c : Thread nD τ)))
def kvPts (c : Dev nD) (s : Fin 2) (h : Fin 8) (f : Vec F S2x8x2048x128 .f32) : sProp 𝕄 :=
  (kvSl s h).view.loc (c : Thread nD τ) ↦[(kvSl s h).view.set]{fullShare} (f : Buf (Elt F) ((kvSl s h).view.loc (c : Thread nD τ)))
def kIdle (c : Dev nD) (h : Fin 8) : sProp 𝕄 := iprop(hkPts A c h ∗ (∃ f, kvPts c 0 h f) ∗ semVal ((c : Thread nD τ), .dma (kvS 0 h)) 0)
def vIdle (c : Dev nD) (h : Fin 8) : sProp 𝕄 := iprop(hvPts A c h ∗ (∃ f, kvPts c 1 h f) ∗ semVal ((c : Thread nD τ), .dma (kvS 1 h)) 0)
def kFly (c : Dev nD) (h : Fin 8) : sProp 𝕄 :=
  iprop(∃ f : Vec F S2x8x2048x128 .f32, Flight EC (c : Thread nD τ) (.dma (kvS 0 h)) () NK
    iprop(kvPts c 0 h ((kvSl 0 h).view.write (Elt F) f ((hkSl c h).view.read (Elt F) (A.k c)) Finset.univ) ∗ hkPts A c h))
def vFly (c : Dev nD) (h : Fin 8) : sProp 𝕄 :=
  iprop(∃ f : Vec F S2x8x2048x128 .f32, Flight EC (c : Thread nD τ) (.dma (kvS 1 h)) () NK
    iprop(kvPts c 1 h ((kvSl 1 h).view.write (Elt F) f ((hvSl c h).view.read (Elt F) (A.v c)) Finset.univ) ∗ hvPts A c h))
def kDone (c : Dev nD) (h : Fin 8) : sProp 𝕄 := iprop(hkPts A c h ∗ kvPts c 0 h (A.kv c) ∗ semVal ((c : Thread nD τ), .dma (kvS 0 h)) 0)
def vDone (c : Dev nD) (h : Fin 8) : sProp 𝕄 := iprop(hvPts A c h ∗ kvPts c 1 h (A.kv c) ∗ semVal ((c : Thread nD τ), .dma (kvS 1 h)) 0)

variable (c : Dev nD)

theorem acc_kv (s : Fin 2) (h : Fin 8) : kvM.view.setOn (kvR s h).toLoadRect.set ⊆ (kvSl s h).view.set := by
  refine Memref.setOn_subset_of_access_subset (c := ((0 : Dev nD) : Thread nD τ)) ?_
  rw [kvSl_set]; exact (View.set_slice_whole _ _).subset

theorem step_k {α : Type} {Q : α → sProp 𝕄} (h : Fin 8) {hsrc : (hkSl c h).view.WordExact} {hdst : (kvSl 0 h).view.WordExact}
    {hsem : DmaTarget.Typed .hbm (.dma (kvS 0 h)) (DmaTarget.here (nD := nD) (p := (Proc.tc : Proc τ)) (kvSl 0 h))}
    {k : PUnit → Prog (TpuEff nD τ sig (Elt F) Λ₀ .tc) α} :
    kIdle A c h ⊢ iprop((kFly A c h -∗ WP c (k ⟨⟩) Q) -∗ WP c (.op (.enqueueDma (hkSl c h) (.here (kvSl 0 h)) (.dma (kvS 0 h)) hsrc hdst hsem) k) Q) := by
  unfold kIdle kFly hkPts kvPts
  iintro ⟨H1, ⟨%f, H2⟩, H3⟩ Hk
  iapply (Transfers.wp_dmaLocal EC 𝒱₀ (c : Thread nD τ) none () NK rfl NK_pos (Finset.Subset.refl _)) $$ [H1 H2 H3]
  · isplitl [H1]; · iexact H1
    isplitl [H2] <;> iassumption
  iintro H
  iapply Hk
  iexists f; iexact H

theorem landed_k (h : Fin 8) (f : Vec F S2x8x2048x128 .f32) :
    kvPts c 0 h ((kvSl 0 h).view.write (Elt F) f ((hkSl c h).view.read (Elt F) (A.k c)) Finset.univ) ⊢ kvPts c 0 h (A.kv c) := by
  unfold kvPts
  exact Entails.of_eq (pointsTo_congr (land_k c h (A.k c) (A.v c) f))

theorem wait_k {α : Type} {Q : α → sProp 𝕄} (h : Fin 8) {O : CellTallies nD τ sig Unit} (hO : Above 0 O) {srcw : Memref sig .tc .hbm S2048x128 .f32}
    {hsrc : srcw.view.WordExact} {hdst : (kvSl 0 h).view.WordExact} {k : PUnit → Prog (TpuEff nD τ sig (Elt F) Λ₀ .tc) α} :
    known A K ⊢ iprop(kFly A c h -∗ owe c O -∗ ((kDone A c h ∗ owe c O) -∗ WP c (k ⟨⟩) Q)
      -∗ WP c (.op (.waitDma2 (kvS 0 h) srcw (kvSl 0 h) hsrc hdst) k) Q) := by
  unfold kFly kDone owe
  iintro #HK ⟨%f, Hf⟩ ⟨%W, HO⟩ Hk
  iapply (Transfers.wp_waitLocalO EC 𝒱₀ (c : Thread nD τ) none (dstw := kvSl 0 h) () (N := NK) rfl) $$ [Hf HO]
  · isplitl [Hf]; · iexact Hf
    isplitl [HO]; · iexact HO
    iapply (mayWait c (.dma (kvS 0 h)) 0 hO (by rw [role_kv]; exact le_refl 0))
    iapply (known_lev A K); iexact HK
  iintro ⟨⟨Hd, Hs⟩, Hv, HO⟩
  ihave Hd' := (landed_k A c h f) $$ Hd
  iapply Hk
  isplitl [Hd' Hs Hv]
  · isplitl [Hs]; · iexact Hs
    isplitl [Hd'] <;> iassumption
  iexists _; iexact HO

theorem load_stk {α : Type} {Q : α → sProp 𝕄} (h : Fin 8) {hl : kvM.view.LoadsAt (kvR 0 h).toLoadRect}
    {k : Vec F S1x1x2048x128 .f32 → Prog (TpuEff nD τ sig (Elt F) Λ₀ .tc) α} :
    kDone A c h ⊢ iprop((kDone A c h -∗ WP c (k (kvSlot (A.k c) (A.v c) c 0 h)) Q)
      -∗ WP c (.op (.load kvM (kvR 0 h).toLoadRect hl) k) Q) := by
  unfold kDone kvPts
  iintro ⟨H1, H2, H3⟩ Hk
  iapply (wp_load 𝒱₀ (c : Thread nD τ) none Set.univ (m := kvM) (acc_kv 0 h)) $$ H2
  iintro H2
  iapply Hk
  isplitl [H1]; · iexact H1
  isplitl [H2] <;> iassumption

theorem step_v {α : Type} {Q : α → sProp 𝕄} (h : Fin 8) {hsrc : (hvSl c h).view.WordExact} {hdst : (kvSl 1 h).view.WordExact}
    {hsem : DmaTarget.Typed .hbm (.dma (kvS 1 h)) (DmaTarget.here (nD := nD) (p := (Proc.tc : Proc τ)) (kvSl 1 h))}
    {k : PUnit → Prog (TpuEff nD τ sig (Elt F) Λ₀ .tc) α} :
    vIdle A c h ⊢ iprop((vFly A c h -∗ WP c (k ⟨⟩) Q) -∗ WP c (.op (.enqueueDma (hvSl c h) (.here (kvSl 1 h)) (.dma (kvS 1 h)) hsrc hdst hsem) k) Q) := by
  unfold vIdle vFly hvPts kvPts
  iintro ⟨H1, ⟨%f, H2⟩, H3⟩ Hk
  iapply (Transfers.wp_dmaLocal EC 𝒱₀ (c : Thread nD τ) none () NK rfl NK_pos (Finset.Subset.refl _)) $$ [H1 H2 H3]
  · isplitl [H1]; · iexact H1
    isplitl [H2] <;> iassumption
  iintro H
  iapply Hk
  iexists f; iexact H

theorem landed_v (h : Fin 8) (f : Vec F S2x8x2048x128 .f32) :
    kvPts c 1 h ((kvSl 1 h).view.write (Elt F) f ((hvSl c h).view.read (Elt F) (A.v c)) Finset.univ) ⊢ kvPts c 1 h (A.kv c) := by
  unfold kvPts
  exact Entails.of_eq (pointsTo_congr (land_v c h (A.k c) (A.v c) f))

theorem wait_v {α : Type} {Q : α → sProp 𝕄} (h : Fin 8) {O : CellTallies nD τ sig Unit} (hO : Above 0 O) {srcw : Memref sig .tc .hbm S2048x128 .f32}
    {hsrc : srcw.view.WordExact} {hdst : (kvSl 1 h).view.WordExact} {k : PUnit → Prog (TpuEff nD τ sig (Elt F) Λ₀ .tc) α} :
    known A K ⊢ iprop(vFly A c h -∗ owe c O -∗ ((vDone A c h ∗ owe c O) -∗ WP c (k ⟨⟩) Q)
      -∗ WP c (.op (.waitDma2 (kvS 1 h) srcw (kvSl 1 h) hsrc hdst) k) Q) := by
  unfold vFly vDone owe
  iintro #HK ⟨%f, Hf⟩ ⟨%W, HO⟩ Hk
  iapply (Transfers.wp_waitLocalO EC 𝒱₀ (c : Thread nD τ) none (dstw := kvSl 1 h) () (N := NK) rfl) $$ [Hf HO]
  · isplitl [Hf]; · iexact Hf
    isplitl [HO]; · iexact HO
    iapply (mayWait c (.dma (kvS 1 h)) 0 hO (by rw [role_kv]; exact le_refl 0))
    iapply (known_lev A K); iexact HK
  iintro ⟨⟨Hd, Hs⟩, Hv, HO⟩
  ihave Hd' := (landed_v A c h f) $$ Hd
  iapply Hk
  isplitl [Hd' Hs Hv]
  · isplitl [Hs]; · iexact Hs
    isplitl [Hd'] <;> iassumption
  iexists _; iexact HO

theorem load_stv {α : Type} {Q : α → sProp 𝕄} (h : Fin 8) {hl : kvM.view.LoadsAt (kvR 1 h).toLoadRect}
    {k : Vec F S1x1x2048x128 .f32 → Prog (TpuEff nD τ sig (Elt F) Λ₀ .tc) α} :
    vDone A c h ⊢ iprop((vDone A c h -∗ WP c (k (kvSlot (A.k c) (A.v c) c 1 h)) Q)
      -∗ WP c (.op (.load kvM (kvR 1 h).toLoadRect hl) k) Q) := by
  unfold vDone kvPts
  iintro ⟨H1, H2, H3⟩ Hk
  iapply (wp_load 𝒱₀ (c : Thread nD τ) none Set.univ (m := kvM) (acc_kv 1 h)) $$ H2
  iintro H2
  iapply Hk
  isplitl [H1]; · iexact H1
  isplitl [H2] <;> iassumption

/-- The k heads stored so far: the first `n` of them. -/
def kbPts (n : ℕ) : sProp 𝕄 :=
  iprop(∃ f : Vec F S8x2048x128 .bf16, kbM.view.loc (c : Thread nD τ) ↦{fullShare} (fill n (A.kH c) f : Buf (Elt F) (kbM.view.loc (c : Thread nD τ))))

theorem load_kbuf {α : Type} {Q : α → sProp 𝕄} (n : ℕ) (h : Fin 8) (hn : h.val < n) {hl : kbM.view.LoadsAt (headR h).toLoadRect}
    {k : Vec F S1x2048x128 .bf16 → Prog (TpuEff nD τ sig (Elt F) Λ₀ .tc) α} :
    kbPts A c n ⊢ iprop((kbPts A c n -∗ WP c (k (A.kH c h)) Q) -∗ WP c (.op (.load kbM (headR h).toLoadRect hl) k) Q) := by
  unfold kbPts
  iintro ⟨%f, H⟩ Hk
  iapply (wp_load 𝒱₀ (c : Thread nD τ) none Set.univ (m := kbM) (Finset.subset_univ _)) $$ H
  iintro H
  rw [load_kb n h hn]
  iapply Hk
  iexists f; iexact H

/-- The store of head `h`, after a load of its place whose value nothing reads. -/
theorem put_kbuf {α : Type} {Q : α → sProp 𝕄} (n : ℕ) (h : Fin 8) (hn : h.val = n) (w : Vec F S1x2048x128 .bf16) (hw : w = A.kH c h) {hl : kbM.view.LoadsAt (headR h).toLoadRect}
    {hx : (kbM.access (headR h)).Stores Finset.univ} {hm : Finset.univ = Finset.univ ∨ ∀ a, (headR h).stride a = 1}
    {k : PUnit → Prog (TpuEff nD τ sig (Elt F) Λ₀ .tc) α} :
    kbPts A c n ⊢ iprop((kbPts A c (n + 1) -∗ WP c (k ⟨⟩) Q)
      -∗ WP c (.op (.load kbM (headR h).toLoadRect hl) fun _ => .op (.store kbM (headR h) w Finset.univ hx hm) k) Q) := by
  subst hn
  unfold kbPts
  iintro ⟨%f, H⟩ Hk
  iapply (wp_load 𝒱₀ (c : Thread nD τ) none Set.univ (m := kbM) (Finset.subset_univ _)) $$ H
  iintro H
  iapply (wp_store 𝒱₀ (c : Thread nD τ) none Set.univ (m := kbM) (r := headR h) (Mk := Finset.univ) (Finset.subset_univ _)) $$ H
  iintro H
  rw [hw, store_kb]
  iapply Hk
  iexists f; iexact H

/-- The v heads stored so far: the first `n` of them. -/
def vbPts (n : ℕ) : sProp 𝕄 :=
  iprop(∃ f : Vec F S8x2048x128 .bf16, vbM.view.loc (c : Thread nD τ) ↦{fullShare} (fill n (A.vH c) f : Buf (Elt F) (vbM.view.loc (c : Thread nD τ))))

theorem load_vbuf {α : Type} {Q : α → sProp 𝕄} (n : ℕ) (h : Fin 8) (hn : h.val < n) {hl : vbM.view.LoadsAt (headR h).toLoadRect}
    {k : Vec F S1x2048x128 .bf16 → Prog (TpuEff nD τ sig (Elt F) Λ₀ .tc) α} :
    vbPts A c n ⊢ iprop((vbPts A c n -∗ WP c (k (A.vH c h)) Q) -∗ WP c (.op (.load vbM (headR h).toLoadRect hl) k) Q) := by
  unfold vbPts
  iintro ⟨%f, H⟩ Hk
  iapply (wp_load 𝒱₀ (c : Thread nD τ) none Set.univ (m := vbM) (Finset.subset_univ _)) $$ H
  iintro H
  rw [load_vb n h hn]
  iapply Hk
  iexists f; iexact H

/-- The store of head `h`, after a load of its place whose value nothing reads. -/
theorem put_vbuf {α : Type} {Q : α → sProp 𝕄} (n : ℕ) (h : Fin 8) (hn : h.val = n) (w : Vec F S1x2048x128 .bf16) (hw : w = A.vH c h) {hl : vbM.view.LoadsAt (headR h).toLoadRect}
    {hx : (vbM.access (headR h)).Stores Finset.univ} {hm : Finset.univ = Finset.univ ∨ ∀ a, (headR h).stride a = 1}
    {k : PUnit → Prog (TpuEff nD τ sig (Elt F) Λ₀ .tc) α} :
    vbPts A c n ⊢ iprop((vbPts A c (n + 1) -∗ WP c (k ⟨⟩) Q)
      -∗ WP c (.op (.load vbM (headR h).toLoadRect hl) fun _ => .op (.store vbM (headR h) w Finset.univ hx hm) k) Q) := by
  subst hn
  unfold vbPts
  iintro ⟨%f, H⟩ Hk
  iapply (wp_load 𝒱₀ (c : Thread nD τ) none Set.univ (m := vbM) (Finset.subset_univ _)) $$ H
  iintro H
  iapply (wp_store 𝒱₀ (c : Thread nD τ) none Set.univ (m := vbM) (r := headR h) (Mk := Finset.univ) (Finset.subset_univ _)) $$ H
  iintro H
  rw [hw, store_vb]
  iapply Hk
  iexists f; iexact H

/-! ## The barrier -/

/-- The first signal, to the device to the left: this device's slots for sums, and slot 0 of its gather. -/
theorem signal_prv {α : Type} {Q : α → sProp 𝕄} {k : PUnit → Prog (TpuEff nD τ sig (Elt F) Λ₀ .tc) α} {f0 f1 f2 : Vec F S3x128x1024 .f32} {g0 : Vec F S3x128x1024 .bf16} :
    known A K ⊢ iprop(owe c (O₀ c) -∗ dutyTok ER (barC (prv c)) 0 true -∗ rcvPts c 0 f0 -∗ rcvPts c 1 f1 -∗ rcvPts c 2 f2 -∗ agrPts c 0 g0
      -∗ (owe c (P7 c) -∗ WP c (k ⟨⟩) Q) -∗ WP c (.op (.semSignal (prv c : Thread nD τ) barS 1) k) Q) := by
  unfold owe
  iintro #HK ⟨%W, HO⟩ Ht H0 H1 H2 H3 Hk
  iapply (Rounds.wp_signal 𝒱₀ ER (Rd A) (c : Thread nD τ) none (dst := (prv c : Thread nD τ)) (κ := K (prv c, none))
      (d := true) (by rw [duties_bar]; exact Finset.mem_univ _) ((amount_bar A (prv c) true).trans (by decide)) () (P7 c) rfl)
    $$ [HO Ht H0 H1 H2 H3]
  · isplitr; · iapply (known_inv A K (prv c, none)); iexact HK
    isplitl [HO]; · iexact HO
    isplitl [Ht]; · iexact Ht
    isplitl
    · rw [payload_barR]; unfold barPayR; rw [nxt_prv]
      isplitl [H0]; · iexists _; iexact H0
      isplitl [H1]; · iexists _; iexact H1
      isplitl [H2]; · iexists _; iexact H2
      iexists _; iexact H3
    iapply (known_reached A K (prv c, none)); iexact HK
  iintro HO
  iapply Hk
  iexists _; iexact HO

/-- The second signal, to the device to the right: slots 1 and 2 of this device's gather. -/
theorem signal_nxt {α : Type} {Q : α → sProp 𝕄} {k : PUnit → Prog (TpuEff nD τ sig (Elt F) Λ₀ .tc) α} {g1 g2 : Vec F S3x128x1024 .bf16} :
    known A K ⊢ iprop(owe c (P7 c) -∗ dutyTok ER (barC (nxt c)) 0 false -∗ agrPts c 1 g1 -∗ agrPts c 2 g2
      -∗ (owe c (P6 c) -∗ WP c (k ⟨⟩) Q) -∗ WP c (.op (.semSignal (nxt c : Thread nD τ) barS 1) k) Q) := by
  unfold owe
  iintro #HK ⟨%W, HO⟩ Ht H1 H2 Hk
  iapply (Rounds.wp_signal 𝒱₀ ER (Rd A) (c : Thread nD τ) none (dst := (nxt c : Thread nD τ)) (κ := K (nxt c, none))
      (d := false) (by rw [duties_bar]; exact Finset.mem_univ _) ((amount_bar A (nxt c) false).trans (by decide)) () (P6 c) rfl)
    $$ [HO Ht H1 H2]
  · isplitr; · iapply (known_inv A K (nxt c, none)); iexact HK
    isplitl [HO]; · iexact HO
    isplitl [Ht]; · iexact Ht
    isplitl
    · rw [payload_barL]; unfold barPayL; rw [prv_nxt]
      isplitl [H1]; · iexists _; iexact H1
      iexists _; iexact H2
    iapply (known_reached A K (nxt c, none)); iexact HK
  iintro HO
  iapply Hk
  iexists _; iexact HO

theorem wait_bar {α : Type} {Q : α → sProp 𝕄} {k : PUnit → Prog (TpuEff nD τ sig (Elt F) Λ₀ .tc) α} :
    known A K ⊢ iprop(cred (tallyAt (barC c) () 2) -∗ atPos ER (barC c) 0 ∅ 0 -∗ owe c (P6 c)
      -∗ ((owe c (P6 c) ∗ barPayL c ∗ barPayR c ∗ semVal (barC c) 0) -∗ WP c (k ⟨⟩) Q) -∗ WP c (.op (.semWait barS 2) k) Q) := by
  unfold owe
  iintro #HK Hc Ha ⟨%W, HO⟩ Hk
  iapply (Rounds.wp_wait_rest_token 𝒱₀ ER (Rd A) (c : Thread nD τ) none (κ := K (c, none))
      (wpE_semWait_eq 𝒱₀ (c : Thread nD τ) none Set.univ) (Set.mem_univ _) () (O := P6 c) (W := W) (R := 0) (m := 0) (T := ∅)
      (by rw [expect_bar])) $$ [Hc HO Ha]
  · isplitr; · iapply (known_inv A K (c, none)); iexact HK
    isplitl [Hc]; · iexact Hc
    isplitl [HO]; · iexact HO
    isplitr
    · iapply (mayWait c (.reg barS) 1 (above_P6 c) (by rw [role_bar]; exact le_refl 1))
      iapply (known_lev A K); iexact HK
    iexact Ha
  iintro ⟨HO, Ha, -, Hp⟩
  ihave Hp := (Entails.of_eq (rest_bar A c)) $$ Hp
  icases Hp with ⟨HL, HR⟩
  imod (Rounds.cell_close ER (Rd A) (Set.mem_univ (K (c, none))) (fun h => h) (R := 0 + 1) (duties_later A (barC c))) $$ [Ha] with Hz
  · isplitr; · iapply (known_inv A K (c, none)); iexact HK
    iexact Ha
  iapply Hk
  isplitl [HO]; · iexists _; iexact HO
  isplitl [HL]; · iexact HL
  isplitl [HR] <;> iassumption

/-! ## The waits on the transfers' cells -/

/-- The wait on a cell of the protocol, by what it expects and what it hands over; the cell closes behind it. -/
theorem wait_cell {α : Type} {Q : α → sProp 𝕄} (i : Fin 4 × Fin 3) (q : DmaSem sig) (hq : csem (some i) = .dma q) (N b : ℕ) (P : sProp 𝕄)
    (hN : (Rd A).expect ((c : Thread nD τ), .dma q) 0 = N)
    (hP : bigSep ((Rd A).duties ((c : Thread nD τ), .dma q) 0 \ ∅) (fun d => (Rd A).payload ((c : Thread nD τ), .dma q) 0 d) = P)
    {O : CellTallies nD τ sig Unit} (hO : Above b O) (hb : rLevel (role (.dma q)) ≤ b)
    {sp sp' : Space} {s s' : Shape} {e e' : EltTy} {srcw : Memref sig .tc sp s e} {dstw : Memref sig .tc sp' s' e'}
    {hsrc : srcw.view.WordExact} {hdst : dstw.view.WordExact} (hc : dstw.view.dmaCredit = N)
    {k : PUnit → Prog (TpuEff nD τ sig (Elt F) Λ₀ .tc) α} :
    known A K ⊢ iprop(cred (tallyAt ((c : Thread nD τ), .dma q) () N) -∗ atPos ER ((c : Thread nD τ), .dma q) 0 ∅ 0 -∗ owe c O
      -∗ ((owe c O ∗ P ∗ semVal ((c : Thread nD τ), .dma q) 0) -∗ WP c (k ⟨⟩) Q) -∗ WP c (.op (.waitDma2 q srcw dstw hsrc hdst) k) Q) := by
  subst hc
  have hg : kcell (c, some i) = ((c : Thread nD τ), .dma q) := by unfold kcell; rw [hq]
  unfold owe
  iintro #HK Hc Ha ⟨%W, HO⟩ Hk
  ihave #HI := (known_inv A K (c, some i)) $$ HK
  rw [hg]
  iapply (Rounds.wp_wait_rest_token 𝒱₀ ER (Rd A) (c : Thread nD τ) none (κ := K (c, some i))
      (wpE_waitDma2_eq 𝒱₀ (c : Thread nD τ) none Set.univ) (Set.mem_univ _) () (O := O) (W := W) (R := 0) (m := 0) (T := ∅)
      (by rw [hN, Nat.zero_add])) $$ [Hc HO Ha]
  · isplitr; · iexact HI
    isplitl [Hc]; · iexact Hc
    isplitl [HO]; · iexact HO
    isplitr
    · iapply (mayWait c (.dma q) b hO hb)
      iapply (known_lev A K); iexact HK
    iexact Ha
  iintro ⟨HO, Ha, -, Hp⟩
  ihave Hp := (Entails.of_eq hP) $$ Hp
  imod (Rounds.cell_close ER (Rd A) (Set.mem_univ (K (c, some i))) (fun h => h) (R := 0 + 1) (duties_later A _)) $$ [Ha] with Hz
  · isplitr; · iexact HI
    iexact Ha
  iapply Hk
  isplitl [HO]; · iexists _; iexact HO
  isplitl [Hp] <;> iassumption

theorem wait_rcv {α : Type} {Q : α → sProp 𝕄} (j : Fin 3) {O : CellTallies nD τ sig Unit} (hO : Above (2 + j.val) O)
    {sp : Space} {s : Shape} {e : EltTy} {srcw : Memref sig .tc sp s e}
    {hsrc : srcw.view.WordExact} {hdst : (rcvSl j).view.WordExact} {k : PUnit → Prog (TpuEff nD τ sig (Elt F) Λ₀ .tc) α} :
    known A K ⊢ iprop(cred (tallyAt (rcvC c j) () NR) -∗ atPos ER (rcvC c j) 0 ∅ 0 -∗ owe c O
      -∗ ((owe c O ∗ rcvPay A c j ∗ semVal (rcvC c j) 0) -∗ WP c (k ⟨⟩) Q) -∗ WP c (.op (.waitDma2 (rcvS j) srcw (rcvSl j) hsrc hdst) k) Q) :=
  wait_cell A K c (1, j) (rcvS j) rfl NR (2 + j.val) _ (expect_rcv A c j) (rest_rcv A c j) hO (by rw [role_rcv]; exact le_refl _) (srcw := srcw) (dstw := rcvSl j) rfl

theorem wait_snd {α : Type} {Q : α → sProp 𝕄} (j : Fin 3) {sp : Space} {s : Shape} {e : EltTy} {srcw : Memref sig .tc sp s e}
    {hsrc : srcw.view.WordExact} {hdst : (sndSl j).view.WordExact} {k : PUnit → Prog (TpuEff nD τ sig (Elt F) Λ₀ .tc) α} :
    known A K ⊢ iprop(cred (tallyAt (sndC c j) () NR) -∗ atPos ER (sndC c j) 0 ∅ 0 -∗ owe c 0
      -∗ ((owe c 0 ∗ sndPts c j (A.snd c) ∗ semVal (sndC c j) 0) -∗ WP c (k ⟨⟩) Q) -∗ WP c (.op (.waitDma2 (sndS j) srcw (sndSl j) hsrc hdst) k) Q) :=
  wait_cell A K c (0, j) (sndS j) rfl NR 0 _ (expect_snd A c j) (rest_snd A c j) (above_zero 0) (by rw [role_snd]; exact le_refl _) (srcw := srcw) (dstw := sndSl j) rfl

theorem wait_gr {α : Type} {Q : α → sProp 𝕄} (j : Fin 3) {sp : Space} {s : Shape} {e : EltTy} {srcw : Memref sig .tc sp s e}
    {hsrc : srcw.view.WordExact} {hdst : (agrSl j).view.WordExact} {k : PUnit → Prog (TpuEff nD τ sig (Elt F) Λ₀ .tc) α} :
    known A K ⊢ iprop(cred (tallyAt (grC c j) () NG) -∗ atPos ER (grC c j) 0 ∅ 0 -∗ owe c 0
      -∗ ((owe c 0 ∗ agrPts c j (A.agr c) ∗ semVal (grC c j) 0) -∗ WP c (k ⟨⟩) Q) -∗ WP c (.op (.waitDma2 (grS j) srcw (agrSl j) hsrc hdst) k) Q) :=
  wait_cell A K c (3, j) (grS j) rfl NG 5 _ (expect_gr A c j) (rest_gr A c j) (above_zero 5) (by rw [role_gr]; exact le_refl _) (srcw := srcw) (dstw := agrSl j) rfl

theorem wait_gs {α : Type} {Q : α → sProp 𝕄} (j : Fin 3) {sp : Space} {s : Shape} {e : EltTy} {srcw : Memref sig .tc sp s e}
    {hsrc : srcw.view.WordExact} {hdst : agM.view.WordExact} {k : PUnit → Prog (TpuEff nD τ sig (Elt F) Λ₀ .tc) α} :
    known A K ⊢ iprop(cred (tallyAt (gsC c j) () NG) -∗ atPos ER (gsC c j) 0 ∅ 0 -∗ owe c 0
      -∗ ((owe c 0 ∗ agPts c (agShare j) (A.ag c) ∗ semVal (gsC c j) 0) -∗ WP c (k ⟨⟩) Q) -∗ WP c (.op (.waitDma2 (gsS j) srcw agM hsrc hdst) k) Q) :=
  wait_cell A K c (2, j) (gsS j) rfl NG 0 _ (expect_gs A c j) (rest_gs A c j) (above_zero 0) (by rw [role_gs]; exact le_refl _) (srcw := srcw) (dstw := agM) rfl

/-! ## The transfers -/

/-- What goes beside a sum into the device to the right: with the first, slot 2 of the gather of the device to the left. -/
def beside (j : Fin 3) : sProp 𝕄 := if j.val = 0 then iprop(∃ f, agrPts (F := F) (prv c) 2 f) else iprop(emp)

theorem landed_rcv (j : Fin 3) (f : Vec F S3x128x1024 .f32) :
    iprop(rcvPts (nxt c) j ((rcvSl j).view.write (Elt F) f ((sndSl j).view.read (Elt F) (A.snd c)) Finset.univ) ∗ beside c j) ⊢ rcvPay A (nxt c) j := by
  unfold rcvPay beside rcvPts
  rw [opp_nxt]
  refine sep_mono_left (Entails.of_eq (pointsTo_congr ?_))
  intro i hi
  refine (land_rcv j (A.snd c) f i hi).trans ?_
  unfold Args.rcv; rw [prv_nxt]

theorem send_sum {α : Type} {Q : α → sProp 𝕄} (j : Fin 3) (n : Dev nD) (hn : n = nxt c) {O : CellTallies nD τ sig Unit}
    {hsc : (rcvSl j : Memref sig (Dev.tc n : Thread nD τ).2.kind .vmem S128x1024 .f32).view.ref.isScScratch = false}
    {hsrc : (sndSl j).view.WordExact} {hdst : (rcvSl j).view.WordExact}
    {hsem : DmaTarget.Typed .vmem (.dma (rcvS j)) (.remote (Dev.tc n : Thread nD τ) (rcvSl j : Memref sig .tc .vmem S128x1024 .f32) (.dma (sndS j)) hsc)}
    {k : PUnit → Prog (TpuEff nD τ sig (Elt F) Λ₀ .tc) α} {f : Vec F S3x128x1024 .f32} :
    known A K ⊢ iprop(sndPts c j (A.snd c) -∗ rcvPts (nxt c) j f -∗ beside c j -∗ owe c (O + tallyAt (rcvC (nxt c) j) () NR)
      -∗ dutyTok ER (sndC c j) 0 false -∗ dutyTok ER (rcvC (nxt c) j) 0 false
      -∗ ((owe c O ∗ cred (tallyAt (sndC c j) () NR)) -∗ WP c (k ⟨⟩) Q)
      -∗ WP c (.op (.enqueueDma (sndSl j) (.remote (Dev.tc n : Thread nD τ) (rcvSl j) (.dma (sndS j)) hsc) (.dma (rcvS j)) hsrc hdst hsem) k) Q) := by
  subst hn
  have h := fun W => Rounds.wp_send_pointsTo_with 𝒱₀ ER (Rd A) (c : Thread nD τ) none (κ₁ := K (c, some (0, j))) (κ₂ := K (nxt c, some (1, j)))
    (c' := (nxt c : Thread nD τ)) (src := sndSl j) (dst := rcvSl j) (hsc := hsc) (sS := .dma (sndS j)) (sem := .dma (rcvS j))
    (hsrc := hsrc) (hdst := hdst) (hsem := hsem) (k := k) (Q := Q) (q := fullShare) (fs := A.snd c) (fd := f) (F := beside c j)
    (r₁ := 0) (r₂ := 0) (d₁ := false) (d₂ := false) (Es := Set.univ) (defs := defs₀ (F := F)) (Γ := .empty)
    (by rw [duties_snd]; exact Finset.mem_singleton_self _) (by rw [duties_rcv]; exact Finset.mem_singleton_self _)
    () () NR rfl (amount_snd A c j false) (amount_rcv A (nxt c) j false) O (O₀ := O + tallyAt (rcvC (nxt c) j) () NR) rfl (W := W)
    (by rw [payload_snd]; exact BI.Entails.refl _)
    (by rw [payload_rcv]; exact landed_rcv A c j f)
  unfold owe sndPts rcvPts
  iintro #HK Hs Hd Hb ⟨%W, HO⟩ Ht1 Ht2 Hk
  iapply (h W) $$ [Hs Hd Hb HO Ht1 Ht2]
  · isplitr; · iapply (known_inv A K (c, some (0, j))); iexact HK
    isplitr; · iapply (known_inv A K (nxt c, some (1, j))); iexact HK
    isplitl [Hs]; · iexact Hs
    isplitl [Hd Hb]; · isplitl [Hd] <;> iassumption
    isplitl [HO]; · iexact HO
    isplitl [Ht1]; · iexact Ht1
    isplitr; · iapply (known_reached A K (c, some (0, j))); iexact HK
    isplitl [Ht2]; · iexact Ht2
    iapply (known_reached A K (nxt c, some (1, j))); iexact HK
  iintro ⟨Hc, HO⟩
  iapply Hk
  isplitl [HO]; · iexists _; iexact HO
  iexact Hc

theorem landed_agr (t : Dev nD) (s : Fin 3) (ht : Args.agFrom t s = c) (f : Vec F S3x128x1024 .bf16) :
    agrPts t s ((agrSl s).view.write (Elt F) f (A.ag c) Finset.univ) ⊢ agrPts t s (A.agr t) := by
  unfold agrPts
  refine Entails.of_eq (pointsTo_congr ?_)
  intro i hi
  refine Eq.trans ?_ (land_agr s (fun s => A.ag (Args.agFrom t s)) f i hi)
  rw [ht]

theorem send_block {α : Type} {Q : α → sProp 𝕄} (s : Fin 3) (t n : Dev nD) (hn : n = t) (ht : Args.agFrom t s = c) {O : CellTallies nD τ sig Unit}
    {hsc : (agrSl s : Memref sig (Dev.tc n : Thread nD τ).2.kind .vmem S128x1024 .bf16).view.ref.isScScratch = false}
    {hsrc : agM.view.WordExact} {hdst : (agrSl s).view.WordExact}
    {hsem : DmaTarget.Typed .vmem (.dma (grS s)) (.remote (Dev.tc n : Thread nD τ) (agrSl s : Memref sig .tc .vmem S128x1024 .bf16) (.dma (gsS s)) hsc)}
    {k : PUnit → Prog (TpuEff nD τ sig (Elt F) Λ₀ .tc) α} {f : Vec F S3x128x1024 .bf16} (hr : τ.routes (c : Thread nD τ) (t : Thread nD τ) = true) :
    known A K ⊢ iprop(agPts c (agShare s) (A.ag c) -∗ agrPts t s f -∗ owe c (O + tallyAt (grC t s) () NG)
      -∗ dutyTok ER (gsC c s) 0 false -∗ dutyTok ER (grC t s) 0 false
      -∗ ((owe c O ∗ cred (tallyAt (gsC c s) () NG)) -∗ WP c (k ⟨⟩) Q)
      -∗ WP c (.op (.enqueueDma agM (.remote (Dev.tc n : Thread nD τ) (agrSl s) (.dma (gsS s)) hsc) (.dma (grS s)) hsrc hdst hsem) k) Q) := by
  subst hn
  have h := fun W => Rounds.wp_send_pointsTo 𝒱₀ ER (Rd A) (c : Thread nD τ) none (κ₁ := K (c, some (2, s))) (κ₂ := K (n, some (3, s)))
    (c' := (n : Thread nD τ)) (src := agM) (dst := agrSl s) (hsc := hsc) (sS := .dma (gsS s)) (sem := .dma (grS s))
    (hsrc := hsrc) (hdst := hdst) (hsem := hsem) (k := k) (Q := Q) (q := agShare s) (fs := A.ag c) (fd := f)
    (r₁ := 0) (r₂ := 0) (d₁ := false) (d₂ := false) (Es := Set.univ) (defs := defs₀ (F := F)) (Γ := .empty)
    (by rw [duties_gs]; exact Finset.mem_singleton_self _) (by rw [duties_gr]; exact Finset.mem_singleton_self _)
    () () NG rfl (amount_gs A c s false) (amount_gr A n s false) O (O₀ := O + tallyAt (grC n s) () NG) rfl (W := W)
    (by rw [payload_gs]; exact BI.Entails.refl _)
    (by rw [payload_gr]; exact landed_agr A c n s ht f) (hr := hr)
  unfold owe agPts agrPts
  iintro #HK Hs Hd ⟨%W, HO⟩ Ht1 Ht2 Hk
  iapply (h W) $$ [Hs Hd HO Ht1 Ht2]
  · isplitr; · iapply (known_inv A K (c, some (2, s))); iexact HK
    isplitr; · iapply (known_inv A K (n, some (3, s))); iexact HK
    isplitl [Hs]; · iexact Hs
    isplitl [Hd]; · iexact Hd
    isplitl [HO]; · iexact HO
    isplitl [Ht1]; · iexact Ht1
    isplitr; · iapply (known_reached A K (c, some (2, s))); iexact HK
    isplitl [Ht2]; · iexact Ht2
    iapply (known_reached A K (n, some (3, s))); iexact HK
  iintro ⟨Hc, HO⟩
  iapply Hk
  isplitl [HO]; · iexists _; iexact HO
  iexact Hc

end Cert.KernelIdeal.Ring
-- ==== Proof.Bufs.lean ====
/-
  The loads and stores of the run that are not a head's: the activations, the weights, the sums' slots, the gather's slots,
  the result.
-/
module

public import proofs.«01_k».proof.Proof.Steps

@[expose] public section

set_option maxRecDepth 8192

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (c : Dev nD)

/-- A run that has ended with `a`. -/
theorem ended {α : Type} {Q : α → sProp 𝕄} (a : α) : Q a ⊢ WP c (Prog.ret a) Q := by
  unfold WP; rw [wp_ret]; iintro H; imodintro; iexact H

def xPts (f : Vec F S512x1024 .f32) : sProp 𝕄 := xM.view.loc (c : Thread nD τ) ↦{fullShare} (f : Buf (Elt F) (xM.view.loc (c : Thread nD τ)))
def outPts (f : Vec F S512x1024 .f32) : sProp 𝕄 := outM.view.loc (c : Thread nD τ) ↦{fullShare} (f : Buf (Elt F) (outM.view.loc (c : Thread nD τ)))

theorem load_x {α : Type} {Q : α → sProp 𝕄} (off : Fin 2 → ℕ) (r : Fin 4) (ho : off = ![128 * r.val, 0]) {inb} (f : Vec F S512x1024 .f32)
    {hl : xM.view.LoadsAt (Rect.unit (s := S512x1024) off S128x1024.size inb).toLoadRect}
    {k : Vec F S128x1024 .f32 → Prog (TpuEff nD τ sig (Elt F) Λ₀ .tc) α} :
    xPts c f ⊢ iprop((xPts c f -∗ WP c (k (rowsOf f r)) Q)
      -∗ WP c (.op (.load xM (Rect.unit (s := S512x1024) off S128x1024.size inb).toLoadRect hl) k) Q) := by
  unfold xPts
  iintro H Hk
  iapply (wp_load 𝒱₀ (c : Thread nD τ) none Set.univ (m := xM) (Finset.subset_univ _)) $$ H
  iintro H
  rw [load_rows off r ho inb f]
  iapply Hk; iexact H

/-- The result `f` with the block of rows `r` at `w`. -/
def putRows (r : Fin 4) (w : Vec F S128x1024 .f32) (f : Vec F S512x1024 .f32) : Vec F S512x1024 .f32 := fun i =>
  if (i 0).val / 128 = r.val then rows4 (fun _ => w) i else f i

/-- The store of a block of rows, after a load of its place whose value nothing reads. -/
theorem put_out {α : Type} {Q : α → sProp 𝕄} (off : Fin 2 → ℕ) (r : Fin 4) (ho : off = ![128 * r.val, 0]) {inb} (f : Vec F S512x1024 .f32) (w : Vec F S128x1024 .f32)
    {hl : outM.view.LoadsAt (Rect.unit (s := S512x1024) off S128x1024.size inb).toLoadRect}
    {hx : (outM.access (Rect.unit (s := S512x1024) off S128x1024.size inb)).Stores Finset.univ}
    {hm : Finset.univ = Finset.univ ∨ ∀ a, (Rect.unit (s := S512x1024) off S128x1024.size inb).stride a = 1}
    {k : PUnit → Prog (TpuEff nD τ sig (Elt F) Λ₀ .tc) α} :
    outPts c f ⊢ iprop((outPts c (putRows r w f) -∗ WP c (k ⟨⟩) Q)
      -∗ WP c (.op (.load outM (Rect.unit (s := S512x1024) off S128x1024.size inb).toLoadRect hl) fun _ =>
          .op (.store outM (Rect.unit (s := S512x1024) off S128x1024.size inb) w Finset.univ hx hm) k) Q) := by
  unfold outPts
  iintro H Hk
  iapply (wp_load 𝒱₀ (c : Thread nD τ) none Set.univ (m := outM) (Finset.subset_univ _)) $$ H
  iintro H
  iapply (wp_store 𝒱₀ (c : Thread nD τ) none Set.univ (m := outM) (r := Rect.unit (s := S512x1024) off S128x1024.size inb) (Mk := Finset.univ) (Finset.subset_univ _)) $$ H
  iintro H
  have e : (outM.access (Rect.unit (s := S512x1024) off S128x1024.size inb)).write (Elt F) f w Finset.univ = putRows r w f :=
    funext fun i => store_rows off r ho inb f w i
  rw [e]
  iapply Hk; iexact H

/-! ## The weights and the block that is gathered -/

abbrev wR : Rect S1024x1024 := Rect.unit (s := S1024x1024) ![0, 0] S1024x1024.size inb_S1024x1024_S1024x1024_0_0
abbrev gR : Rect S128x1024 := Rect.unit (s := S128x1024) ![0, 0] S128x1024.size inb_S128x1024_S128x1024_0_0
theorem hz : (![0, 0] : Fin 2 → Nat) = fun _ => 0 := funext fun a => by fin_cases a <;> rfl

def wqPts (f : Vec F S1024x1024 .f32) : sProp 𝕄 := wqM.view.loc (c : Thread nD τ) ↦{fullShare} (f : Buf (Elt F) (wqM.view.loc (c : Thread nD τ)))
theorem load_wq {α : Type} {Q : α → sProp 𝕄} (f : Vec F S1024x1024 .f32) {hl : wqM.view.LoadsAt wR.toLoadRect}
    {k : Vec F S1024x1024 .f32 → Prog (TpuEff nD τ sig (Elt F) Λ₀ .tc) α} :
    wqPts c f ⊢ iprop((wqPts c f -∗ WP c (k f) Q) -∗ WP c (.op (.load wqM wR.toLoadRect hl) k) Q) := by
  unfold wqPts
  iintro H Hk
  iapply (wp_load 𝒱₀ (c : Thread nD τ) none Set.univ (m := wqM) (Finset.subset_univ _)) $$ H
  iintro H
  have e : wqM.view.readAt (Elt F) wR.toLoadRect f = f := Memref.readAt_unit_zero (Elt F) cc0_stg1_0 hz _ f
  rw [e]
  iapply Hk; iexact H

def woPts (f : Vec F S1024x1024 .f32) : sProp 𝕄 := woM.view.loc (c : Thread nD τ) ↦{fullShare} (f : Buf (Elt F) (woM.view.loc (c : Thread nD τ)))
theorem load_wo {α : Type} {Q : α → sProp 𝕄} (f : Vec F S1024x1024 .f32) {hl : woM.view.LoadsAt wR.toLoadRect}
    {k : Vec F S1024x1024 .f32 → Prog (TpuEff nD τ sig (Elt F) Λ₀ .tc) α} :
    woPts c f ⊢ iprop((woPts c f -∗ WP c (k f) Q) -∗ WP c (.op (.load woM wR.toLoadRect hl) k) Q) := by
  unfold woPts
  iintro H Hk
  iapply (wp_load 𝒱₀ (c : Thread nD τ) none Set.univ (m := woM) (Finset.subset_univ _)) $$ H
  iintro H
  have e : woM.view.readAt (Elt F) wR.toLoadRect f = f := Memref.readAt_unit_zero (Elt F) cc0_stg2_0 hz _ f
  rw [e]
  iapply Hk; iexact H

def wqbPts (f : Vec F S1024x1024 .bf16) : sProp 𝕄 := wqbM.view.loc (c : Thread nD τ) ↦{fullShare} (f : Buf (Elt F) (wqbM.view.loc (c : Thread nD τ)))
theorem load_wqb {α : Type} {Q : α → sProp 𝕄} (f : Vec F S1024x1024 .bf16) {hl : wqbM.view.LoadsAt wR.toLoadRect}
    {k : Vec F S1024x1024 .bf16 → Prog (TpuEff nD τ sig (Elt F) Λ₀ .tc) α} :
    wqbPts c f ⊢ iprop((wqbPts c f -∗ WP c (k f) Q) -∗ WP c (.op (.load wqbM wR.toLoadRect hl) k) Q) := by
  unfold wqbPts
  iintro H Hk
  iapply (wp_load 𝒱₀ (c : Thread nD τ) none Set.univ (m := wqbM) (Finset.subset_univ _)) $$ H
  iintro H
  have e : wqbM.view.readAt (Elt F) wR.toLoadRect f = f := Memref.readAt_unit_zero (Elt F) cc0_scratch0 hz _ f
  rw [e]
  iapply Hk; iexact H

theorem put_wqb {α : Type} {Q : α → sProp 𝕄} (f w : Vec F S1024x1024 .bf16) {hl : wqbM.view.LoadsAt wR.toLoadRect}
    {hx : (wqbM.access wR).Stores Finset.univ} {hm : Finset.univ = Finset.univ ∨ ∀ a, (wR).stride a = 1}
    {k : PUnit → Prog (TpuEff nD τ sig (Elt F) Λ₀ .tc) α} :
    wqbPts c f ⊢ iprop((wqbPts c w -∗ WP c (k ⟨⟩) Q)
      -∗ WP c (.op (.load wqbM wR.toLoadRect hl) fun _ => .op (.store wqbM wR w Finset.univ hx hm) k) Q) := by
  unfold wqbPts
  iintro H Hk
  iapply (wp_load 𝒱₀ (c : Thread nD τ) none Set.univ (m := wqbM) (Finset.subset_univ _)) $$ H
  iintro H
  iapply (wp_store 𝒱₀ (c : Thread nD τ) none Set.univ (m := wqbM) (r := wR) (Mk := Finset.univ) (Finset.subset_univ _)) $$ H
  iintro H
  have e : (wqbM.access wR).write (Elt F) f w Finset.univ = w := Memref.write_access_unit_zero_univ (Elt F) cc0_scratch0 hz _ f w
  rw [e]
  iapply Hk; iexact H

def wobPts (f : Vec F S1024x1024 .bf16) : sProp 𝕄 := wobM.view.loc (c : Thread nD τ) ↦{fullShare} (f : Buf (Elt F) (wobM.view.loc (c : Thread nD τ)))
theorem load_wob {α : Type} {Q : α → sProp 𝕄} (f : Vec F S1024x1024 .bf16) {hl : wobM.view.LoadsAt wR.toLoadRect}
    {k : Vec F S1024x1024 .bf16 → Prog (TpuEff nD τ sig (Elt F) Λ₀ .tc) α} :
    wobPts c f ⊢ iprop((wobPts c f -∗ WP c (k f) Q) -∗ WP c (.op (.load wobM wR.toLoadRect hl) k) Q) := by
  unfold wobPts
  iintro H Hk
  iapply (wp_load 𝒱₀ (c : Thread nD τ) none Set.univ (m := wobM) (Finset.subset_univ _)) $$ H
  iintro H
  have e : wobM.view.readAt (Elt F) wR.toLoadRect f = f := Memref.readAt_unit_zero (Elt F) cc0_scratch1 hz _ f
  rw [e]
  iapply Hk; iexact H

theorem put_wob {α : Type} {Q : α → sProp 𝕄} (f w : Vec F S1024x1024 .bf16) {hl : wobM.view.LoadsAt wR.toLoadRect}
    {hx : (wobM.access wR).Stores Finset.univ} {hm : Finset.univ = Finset.univ ∨ ∀ a, (wR).stride a = 1}
    {k : PUnit → Prog (TpuEff nD τ sig (Elt F) Λ₀ .tc) α} :
    wobPts c f ⊢ iprop((wobPts c w -∗ WP c (k ⟨⟩) Q)
      -∗ WP c (.op (.load wobM wR.toLoadRect hl) fun _ => .op (.store wobM wR w Finset.univ hx hm) k) Q) := by
  unfold wobPts
  iintro H Hk
  iapply (wp_load 𝒱₀ (c : Thread nD τ) none Set.univ (m := wobM) (Finset.subset_univ _)) $$ H
  iintro H
  iapply (wp_store 𝒱₀ (c : Thread nD τ) none Set.univ (m := wobM) (r := wR) (Mk := Finset.univ) (Finset.subset_univ _)) $$ H
  iintro H
  have e : (wobM.access wR).write (Elt F) f w Finset.univ = w := Memref.write_access_unit_zero_univ (Elt F) cc0_scratch1 hz _ f w
  rw [e]
  iapply Hk; iexact H

def agAll (f : Vec F S128x1024 .bf16) : sProp 𝕄 := agM.view.loc (c : Thread nD τ) ↦{fullShare} (f : Buf (Elt F) (agM.view.loc (c : Thread nD τ)))

theorem put_ag {α : Type} {Q : α → sProp 𝕄} (f w : Vec F S128x1024 .bf16) {hl : agM.view.LoadsAt gR.toLoadRect}
    {hx : (agM.access gR).Stores Finset.univ} {hm : Finset.univ = Finset.univ ∨ ∀ a, (gR).stride a = 1}
    {k : PUnit → Prog (TpuEff nD τ sig (Elt F) Λ₀ .tc) α} :
    agAll c f ⊢ iprop((agAll c w -∗ WP c (k ⟨⟩) Q)
      -∗ WP c (.op (.load agM gR.toLoadRect hl) fun _ => .op (.store agM gR w Finset.univ hx hm) k) Q) := by
  unfold agAll
  iintro H Hk
  iapply (wp_load 𝒱₀ (c : Thread nD τ) none Set.univ (m := agM) (Finset.subset_univ _)) $$ H
  iintro H
  iapply (wp_store 𝒱₀ (c : Thread nD τ) none Set.univ (m := agM) (r := gR) (Mk := Finset.univ) (Finset.subset_univ _)) $$ H
  iintro H
  have e : (agM.access gR).write (Elt F) f w Finset.univ = w := Memref.write_access_unit_zero_univ (Elt F) cc0_scratch7 hz _ f w
  rw [e]
  iapply Hk; iexact H

/-! ## The slots -/

theorem acc_snd (j : Fin 3) : (sndM.access (slotR j)).set ⊆ (sndSl j).view.set := by
  rw [sndSl_set]; exact (View.set_slice_whole _ _).subset
theorem acc_rcv (j : Fin 3) : (rcvM.access (slotR j)).set ⊆ (rcvSl j).view.set := by
  rw [rcvSl_set]; exact (View.set_slice_whole _ _).subset
theorem acc_agr (j : Fin 3) : (agrM.access (slotR j)).set ⊆ (agrSl j).view.set := by
  rw [agrSl_set]; exact (View.set_slice_whole _ _).subset

/-- The store of a sum in its slot, after a load of its place whose value nothing reads. -/
theorem put_snd {α : Type} {Q : α → sProp 𝕄} (j : Fin 3) (w : Vec F S1x128x1024 .f32) (hw : w = A.acc j.val c) {f : Vec F S3x128x1024 .f32}
    {hl : sndM.view.LoadsAt (slotR j).toLoadRect}
    {hx : (sndM.access (slotR j)).Stores Finset.univ} {hm : Finset.univ = Finset.univ ∨ ∀ a, (slotR j).stride a = 1}
    {k : PUnit → Prog (TpuEff nD τ sig (Elt F) Λ₀ .tc) α} :
    sndPts c j f ⊢ iprop((sndPts c j (A.snd c) -∗ WP c (k ⟨⟩) Q)
      -∗ WP c (.op (.load sndM (slotR j).toLoadRect hl) fun _ => .op (.store sndM (slotR j) w Finset.univ hx hm) k) Q) := by
  subst hw
  have e : ((sndSl j).view.loc (c : Thread nD τ) ↦[(sndSl j).view.set]{fullShare}
        ((sndM.access (slotR j)).write (Elt F) f (A.acc j.val c) Finset.univ : Buf (Elt F) ((sndSl j).view.loc (c : Thread nD τ))) : sProp 𝕄)
      ⊢ sndPts c j (A.snd c) := by
    unfold sndPts
    exact Entails.of_eq (pointsTo_congr (store_snd j (fun j => A.acc j.val c) f))
  unfold sndPts at e ⊢
  iintro H Hk
  iapply (wp_load 𝒱₀ (c : Thread nD τ) none Set.univ (m := sndM) (Memref.setOn_subset_of_access_subset (c := (c : Thread nD τ)) (acc_snd j))) $$ H
  iintro H
  iapply (wp_store 𝒱₀ (c : Thread nD τ) none Set.univ (m := sndM) (r := slotR j) (Mk := Finset.univ) (acc_snd j)) $$ H
  iintro H
  iapply Hk
  iapply e; iexact H

theorem load_rcv {α : Type} {Q : α → sProp 𝕄} (j : Fin 3) (n : ℕ) (hn : j.val = n) {hl : rcvM.view.LoadsAt (slotR j).toLoadRect}
    {k : Vec F S1x128x1024 .f32 → Prog (TpuEff nD τ sig (Elt F) Λ₀ .tc) α} :
    rcvPts c j (A.rcv c) ⊢ iprop((rcvPts c j (A.rcv c) -∗ WP c (k (A.acc n (prv c))) Q) -∗ WP c (.op (.load rcvM (slotR j).toLoadRect hl) k) Q) := by
  subst hn
  have e : rcvM.view.readAt (Elt F) (slotR j).toLoadRect (A.rcv c) = A.acc j.val (prv c) := load_slot j (fun j => A.acc j.val (prv c))
  unfold rcvPts
  iintro H Hk
  iapply (wp_load 𝒱₀ (c : Thread nD τ) none Set.univ (m := rcvM) (Memref.setOn_subset_of_access_subset (c := (c : Thread nD τ)) (acc_rcv j))) $$ H
  iintro H
  rw [e]
  iapply Hk; iexact H

/-- What a load of a slot of the gather reads. -/
def agrRead (j : Fin 3) : Vec F S1x128x1024 .bf16 := agrM.view.readAt (Elt F) (slotR j).toLoadRect (A.agr c)
theorem wide_agrRead (j : Fin 3) : k0_pay82 (agrRead A c j) = Args.wide (A.ag (Args.agFrom c j)) :=
  load_agr j fun s => A.ag (Args.agFrom c s)

theorem load_agrSlot {α : Type} {Q : α → sProp 𝕄} (j : Fin 3) {hl : agrM.view.LoadsAt (slotR j).toLoadRect}
    {k : Vec F S1x128x1024 .bf16 → Prog (TpuEff nD τ sig (Elt F) Λ₀ .tc) α} :
    agrPts c j (A.agr c) ⊢ iprop((agrPts c j (A.agr c) -∗ WP c (k (agrRead A c j)) Q) -∗ WP c (.op (.load agrM (slotR j).toLoadRect hl) k) Q) := by
  unfold agrPts
  iintro H Hk
  iapply (wp_load 𝒱₀ (c : Thread nD τ) none Set.univ (m := agrM) (Memref.setOn_subset_of_access_subset (c := (c : Thread nD τ)) (acc_agr j))) $$ H
  iintro H
  iapply Hk; iexact H

/-- The block to be gathered splits into the three copies' shares, and back. -/
theorem ag_shares (f : Vec F S128x1024 .bf16) :
    (agAll c f : sProp 𝕄) = iprop(agPts c (agShare 0) f ∗ agPts c (agShare 1) f ∗ agPts c (agShare 2) f) := by
  unfold agAll agPts
  rw [show agM.view.set = (Finset.univ : Finset (Idx (agM.view.loc (c : Thread nD τ)))) from View.set_whole _]
  have e1 (q : PosShare TreeShare) :
      ((agM.view.loc (c : Thread nD τ) ↦{q} (f : Buf (Elt F) (agM.view.loc (c : Thread nD τ)))) : sProp 𝕄)
        = iprop((agM.view.loc (c : Thread nD τ) ↦{q.left} (f : Buf (Elt F) (agM.view.loc (c : Thread nD τ))))
          ∗ (agM.view.loc (c : Thread nD τ) ↦{q.right} (f : Buf (Elt F) (agM.view.loc (c : Thread nD τ))))) :=
    Entails.antisymm (pointsTo_share (PosShare.mem_left_op_right q)).1 (pointsTo_share (PosShare.mem_left_op_right q)).2
  rw [e1 fullShare, e1 fullShare.right]
  rfl

/-- Each row block takes the last store that meets it. -/
theorem pick {X : Type} (r c : Fin 4) (wa : Fin 4 → X) (y z : X) :
    (if r.val = (prv c).val then wa (opp c) else if r.val = (opp c).val then wa (nxt c) else if r.val = c.val then wa (prv c)
      else if r.val = (nxt c).val then y else z) = if r = nxt c then y else wa (prv r) := by
  fin_cases r <;> fin_cases c <;> rfl

/-- The four stores make the result. -/
theorem out_eq (f : Vec F S512x1024 .f32) :
    putRows (prv c) (k0_pay84 (agrRead A c 2)) (putRows (opp c) (k0_pay83 (agrRead A c 1)) (putRows c (k0_pay82 (agrRead A c 0))
      (putRows (nxt c) (A.fin c) f))) = A.out c := by
  rw [show k0_pay84 (agrRead A c 2) = k0_pay82 (agrRead A c 2) from rfl, show k0_pay83 (agrRead A c 1) = k0_pay82 (agrRead A c 1) from rfl,
    wide_agrRead, wide_agrRead, wide_agrRead]
  funext i
  have hi : (i 0).val / 128 < 4 := by have : (i 0).val < 512 := (i 0).isLt; omega
  unfold putRows Args.out rows4
  show (if (⟨(i 0).val / 128, hi⟩ : Fin 4).val = (prv c).val then _ else if (⟨(i 0).val / 128, hi⟩ : Fin 4).val = (opp c).val then _
    else if (⟨(i 0).val / 128, hi⟩ : Fin 4).val = c.val then _ else if (⟨(i 0).val / 128, hi⟩ : Fin 4).val = (nxt c).val then _ else _)
    = (fun r : Fin 4 => if r = nxt c then A.fin c else Args.wide (A.ag (prv r))) ⟨(i 0).val / 128, hi⟩ _
  refine (pick ⟨(i 0).val / 128, hi⟩ c (fun s => Args.wide (A.ag s) (ValueIdx.ix2 ⟨(i 0).val % 128, Nat.mod_lt _ (by decide)⟩ (i 1)))
    (A.fin c (ValueIdx.ix2 ⟨(i 0).val % 128, Nat.mod_lt _ (by decide)⟩ (i 1))) (f i)).trans ?_
  generalize (⟨(i 0).val / 128, hi⟩ : Fin 4) = r
  by_cases h : r = nxt c
  · simp only [h, if_true]
  · simp only [h, if_false]

end Cert.KernelIdeal.Ring
-- ==== Proof.Parts1.lean ====
/-
  The first stretch of the run, part by part: the heads set copying, the barrier, the heads cast as they land, the first block.
-/
module

public import proofs.«01_k».proof.Proof.Bufs

@[expose] public section

set_option maxRecDepth 8192

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the body, at the buffers and semaphores that the launch gives it. -/
abbrev ap.{u} {β : Type u} (p : (arg0 : Memref sig .tc .vmem S512x1024 .f32) → arg0.IsWhole → (arg1 : Memref sig .tc .vmem S1024x1024 .f32) → arg1.IsWhole
      → (arg2 : Memref sig .tc .vmem S1024x1024 .f32) → arg2.IsWhole → (arg3 : Memref sig .tc .hbm S2048x32x128 .f32) → arg3.IsWhole
      → (arg4 : Memref sig .tc .hbm S2048x32x128 .f32) → arg4.IsWhole → (arg5 : Memref sig .tc .vmem S512x1024 .f32) → arg5.IsWhole
      → (arg6 : Memref sig .tc .vmem S1024x1024 .bf16) → arg6.IsWhole → (arg7 : Memref sig .tc .vmem S1024x1024 .bf16) → arg7.IsWhole
      → (arg8 : Memref sig .tc .vmem S8x2048x128 .bf16) → arg8.IsWhole → (arg9 : Memref sig .tc .vmem S8x2048x128 .bf16) → arg9.IsWhole
      → (arg10 : Memref sig .tc .vmem S2x8x2048x128 .f32) → arg10.IsWhole → (arg11 : Memref sig .tc .vmem S3x128x1024 .f32) → arg11.IsWhole
      → (arg12 : Memref sig .tc .vmem S3x128x1024 .f32) → arg12.IsWhole → (arg13 : Memref sig .tc .vmem S128x1024 .bf16) → arg13.IsWhole
      → (arg14 : Memref sig .tc .vmem S3x128x1024 .bf16) → arg14.IsWhole
      → DmaSems sig S2x8 → DmaSems sig S3 → DmaSems sig S3 → DmaSems sig S3 → DmaSems sig S3 → β) : β :=
  p xM (Memref.isWhole_whole _) wqM (Memref.isWhole_whole _) woM (Memref.isWhole_whole _) hkM (Memref.isWhole_whole _)
    hvM (Memref.isWhole_whole _) outM (Memref.isWhole_whole _) wqbM (Memref.isWhole_whole _) wobM (Memref.isWhole_whole _)
    kbM (Memref.isWhole_whole _) vbM (Memref.isWhole_whole _) kvM (Memref.isWhole_whole _) sndM (Memref.isWhole_whole _)
    rcvM (Memref.isWhole_whole _) agM (Memref.isWhole_whole _) agrM (Memref.isWhole_whole _)
    cc0_scratch9 cc0_scratch10 cc0_scratch11 cc0_scratch12 cc0_scratch13

variable (A : Args F) (K : Dev nD × CI → ℕ) (c : Dev nD)

/-- The first part: which device this is, and head 0's copies. -/
theorem part1 {Φ : (Σ' (_ : Dev nD) (_ : BitVec 32) (_ : BitVec 32) (_ : BitVec 32), BitVec 32) → sProp 𝕄} :
    kIdle A c 0 ⊢ iprop(vIdle A c 0 -∗ (kFly A c 0 -∗ vFly A c 0 -∗ ∀ v2 v5 v7 v9, Φ ⟨c, v2, v5, v7, v9⟩)
      -∗ WP c (ap (k0_part1 (F := F))) Φ) := by
  simp only [ap, k0_part1_eq_skeleton]
  unfold k0_part1_skel
  simp only [Prog.lift, Prog.bind_op, Prog.bind_ret, Prog.pure_eq_ret, wp_deviceId]
  iintro H0 H1 Hk
  iapply (step_k A c 0) $$ H0; iintro H0
  iapply (step_v A c 0) $$ H1; iintro H1
  iapply (ended c _)
  iapply Hk $$ H0 H1

/-- Head 1's copies, and head 2's of the keys. -/
theorem part2 {Φ : PUnit → sProp 𝕄} (v2 : BitVec 32) :
    kIdle A c 1 ⊢ iprop(vIdle A c 1 -∗ kIdle A c 2 -∗ (kFly A c 1 -∗ vFly A c 1 -∗ kFly A c 2 -∗ Φ ⟨⟩)
      -∗ WP c (ap (k0_part2 (F := F)) c v2) Φ) := by
  simp only [ap, k0_part2_eq_skeleton]
  unfold k0_part2_skel
  simp only [Prog.lift, Prog.bind_op, Prog.bind_ret, Prog.pure_eq_ret]
  iintro H0 H1 H2 Hk
  iapply (step_k A c 1) $$ H0; iintro H0
  iapply (step_v A c 1) $$ H1; iintro H1
  iapply (step_k A c 2) $$ H2; iintro H2
  iapply (ended c _)
  iapply Hk $$ H0 H1 H2

/-- Head 2's copy of the values, head 3's copies, and head 4's of the keys. -/
theorem part3 {Φ : PUnit → sProp 𝕄} (v2 : BitVec 32) :
    vIdle A c 2 ⊢ iprop(kIdle A c 3 -∗ vIdle A c 3 -∗ kIdle A c 4 -∗ (vFly A c 2 -∗ kFly A c 3 -∗ vFly A c 3 -∗ kFly A c 4 -∗ Φ ⟨⟩)
      -∗ WP c (ap (k0_part3 (F := F)) c v2) Φ) := by
  simp only [ap, k0_part3_eq_skeleton]
  unfold k0_part3_skel
  simp only [Prog.lift, Prog.bind_op, Prog.bind_ret, Prog.pure_eq_ret]
  iintro H0 H1 H2 H3 Hk
  iapply (step_v A c 2) $$ H0; iintro H0
  iapply (step_k A c 3) $$ H1; iintro H1
  iapply (step_v A c 3) $$ H2; iintro H2
  iapply (step_k A c 4) $$ H3; iintro H3
  iapply (ended c _)
  iapply Hk $$ H0 H1 H2 H3

/-- Head 4's copy of the values, and head 5's copies. -/
theorem part4 {Φ : PUnit → sProp 𝕄} (v2 : BitVec 32) :
    vIdle A c 4 ⊢ iprop(kIdle A c 5 -∗ vIdle A c 5 -∗ (vFly A c 4 -∗ kFly A c 5 -∗ vFly A c 5 -∗ Φ ⟨⟩)
      -∗ WP c (ap (k0_part4 (F := F)) c v2) Φ) := by
  simp only [ap, k0_part4_eq_skeleton]
  unfold k0_part4_skel
  simp only [Prog.lift, Prog.bind_op, Prog.bind_ret, Prog.pure_eq_ret]
  iintro H0 H1 H2 Hk
  iapply (step_v A c 4) $$ H0; iintro H0
  iapply (step_k A c 5) $$ H1; iintro H1
  iapply (step_v A c 5) $$ H2; iintro H2
  iapply (ended c _)
  iapply Hk $$ H0 H1 H2

/-- The last two heads' copies, and the signal to the left. -/
theorem part5 {Φ : Sems sig S_ → sProp 𝕄} (v2 v5 : BitVec 32) {f0 f1 f2 : Vec F S3x128x1024 .f32} {g0 : Vec F S3x128x1024 .bf16} :
    known A K ⊢ iprop(kIdle A c 6 -∗ vIdle A c 6 -∗ kIdle A c 7 -∗ vIdle A c 7
      -∗ owe c (O₀ c) -∗ dutyTok ER (barC (prv c)) 0 true -∗ rcvPts c 0 f0 -∗ rcvPts c 1 f1 -∗ rcvPts c 2 f2 -∗ agrPts c 0 g0
      -∗ (kFly A c 6 -∗ vFly A c 6 -∗ kFly A c 7 -∗ vFly A c 7 -∗ owe c (P7 c) -∗ Φ (SemArray.scalar (sig.barrier 0 rfl)))
      -∗ WP c (ap (k0_part5 (F := F)) c v2 v5) Φ) := by
  simp only [ap, k0_part5_eq_skeleton]
  unfold k0_part5_skel
  simp only [Prog.lift, Prog.bind_op, Prog.bind_ret, Prog.pure_eq_ret, semSignalWord, dev1_eq c]
  iintro #HK H0 H1 H2 H3 HO Ht Hr0 Hr1 Hr2 Hg Hk
  iapply (step_k A c 6) $$ H0; iintro H0
  iapply (step_v A c 6) $$ H1; iintro H1
  iapply (step_k A c 7) $$ H2; iintro H2
  iapply (step_v A c 7) $$ H3; iintro H3
  iapply (signal_prv A K c) $$ HK HO Ht Hr0 Hr1 Hr2 Hg; iintro HO
  iapply (ended c _)
  iapply Hk $$ H0 H1 H2 H3 HO

/-- The signal to the right, the wait for both neighbours, the weights cast, the first queries. -/
theorem part6 {Φ : FVec F S128x1024 .bf16 → sProp 𝕄} (v2 v7 : BitVec 32) (v122 : Sems sig S_) (hv : v122.sem = barS) {g1 g2 : Vec F S3x128x1024 .bf16} {fq fo : Vec F S1024x1024 .bf16} :
    known A K ⊢ iprop(owe c (P7 c) -∗ dutyTok ER (barC (nxt c)) 0 false -∗ agrPts c 1 g1 -∗ agrPts c 2 g2
      -∗ cred (tallyAt (barC c) () 2) -∗ atPos ER (barC c) 0 ∅ 0
      -∗ wqPts c (A.wq c) -∗ woPts c (A.wo c) -∗ wqbPts c fq -∗ wobPts c fo -∗ xPts c (A.x c)
      -∗ (owe c (P6 c) -∗ barPayL c -∗ barPayR c -∗ semVal (barC c) 0 -∗ wqPts c (A.wq c) -∗ woPts c (A.wo c)
        -∗ wqbPts c (A.wqb c) -∗ wobPts c (A.wob c) -∗ xPts c (A.x c) -∗ Φ (A.q c c))
      -∗ WP c (ap (k0_part6 (F := F)) c v2 v7 v122) Φ) := by
  simp only [ap, k0_part6_eq_skeleton]
  unfold k0_part6_skel
  simp only [Prog.lift, Prog.bind_op, Prog.bind_ret, Prog.pure_eq_ret, semSignalWord, semWaitWord, dev2_eq c, hv]
  unfold Args.q queries Args.wqb Args.wob
  iintro #HK HO Ht H1 H2 Hc Ha Hwq Hwo Hwqb Hwob Hx Hk
  iapply (signal_nxt A K c) $$ HK HO Ht H1 H2; iintro HO
  iapply (wait_bar A K c) $$ HK Hc Ha HO; iintro ⟨HO, HL, HR, Hz⟩
  iapply (load_wq c _) $$ Hwq; iintro Hwq
  iapply (put_wqb c _ _) $$ Hwqb; iintro Hwqb
  iapply (load_wo c _) $$ Hwo; iintro Hwo
  iapply (put_wob c _ _) $$ Hwob; iintro Hwob
  iapply (load_x c _ c (k0_off2_eq c) _) $$ Hx; iintro Hx
  iapply (load_wqb c _) $$ Hwqb; iintro Hwqb
  iapply (ended c _)
  iapply Hk $$ HO HL HR Hz Hwq Hwo Hwqb Hwob Hx

/-- Head 0 cast; its exponentials and their sum. -/
theorem part7 {Φ : (Σ' (_ : FVec F S128x1 .f32), FVec F S128x2048 .bf16) → sProp 𝕄} (v148 : FVec F S128x1024 .bf16) :
    known A K ⊢ iprop(owe c (P6 c) -∗ kFly A c 0 -∗ vFly A c 0 -∗ kbPts A c 0 -∗ vbPts A c 0
      -∗ (owe c (P6 c) -∗ kDone A c 0 -∗ vDone A c 0 -∗ kbPts A c 1 -∗ vbPts A c 1
        -∗ Φ ⟨k0_pay7 v148 (A.kH c 0), k0_pay8 v148 (A.kH c 0)⟩)
      -∗ WP c (ap (k0_part7 (F := F)) c v148) Φ) := by
  simp only [ap, k0_part7_eq_skeleton]
  unfold k0_part7_skel
  simp only [Prog.lift, Prog.bind_op, Prog.bind_ret, Prog.pure_eq_ret]
  iintro #HK HO Hk0 Hv0 Hkb Hvb Hk
  iapply (wait_k A K c 0 ((above_P6 c).mono (by decide))) $$ HK Hk0 HO; iintro ⟨Hk0, HO⟩
  iapply (load_stk A c 0) $$ Hk0; iintro Hk0
  iapply (put_kbuf A c 0 0 rfl _ rfl) $$ Hkb; iintro Hkb
  iapply (wait_v A K c 0 ((above_P6 c).mono (by decide))) $$ HK Hv0 HO; iintro ⟨Hv0, HO⟩
  iapply (load_stv A c 0) $$ Hv0; iintro Hv0
  iapply (put_vbuf A c 0 0 rfl _ rfl) $$ Hvb; iintro Hvb
  iapply (load_kbuf A c 1 0 (by decide)) $$ Hkb; iintro Hkb
  iapply (ended c _)
  iapply Hk $$ HO Hk0 Hv0 Hkb Hvb

/-- Head 0's output; head 1 landed. -/
theorem part8 {Φ : (Σ' (_ : FVec F S128x128 .bf16), FVec F S2048x128 .bf16) → sProp 𝕄} (v179 : FVec F S128x1 .f32) (v180 : FVec F S128x2048 .bf16) :
    known A K ⊢ iprop(owe c (P6 c) -∗ kFly A c 1 -∗ vFly A c 1 -∗ kbPts A c 1 -∗ vbPts A c 1
      -∗ (owe c (P6 c) -∗ kDone A c 1 -∗ vDone A c 1 -∗ kbPts A c 2 -∗ vbPts A c 1
        -∗ Φ ⟨k0_pay9 v179 v180 (A.vH c 0), k0_pay11 (kvSlot (A.k c) (A.v c) c 1 1)⟩)
      -∗ WP c (ap (k0_part8 (F := F)) c v179 v180) Φ) := by
  simp only [ap, k0_part8_eq_skeleton]
  unfold k0_part8_skel
  simp only [Prog.lift, Prog.bind_op, Prog.bind_ret, Prog.pure_eq_ret]
  iintro #HK HO Hk1 Hv1 Hkb Hvb Hk
  iapply (load_vbuf A c 1 0 (by decide)) $$ Hvb; iintro Hvb
  iapply (wait_k A K c 1 ((above_P6 c).mono (by decide))) $$ HK Hk1 HO; iintro ⟨Hk1, HO⟩
  iapply (load_stk A c 1) $$ Hk1; iintro Hk1
  iapply (put_kbuf A c 1 1 rfl _ rfl) $$ Hkb; iintro Hkb
  iapply (wait_v A K c 1 ((above_P6 c).mono (by decide))) $$ HK Hv1 HO; iintro ⟨Hv1, HO⟩
  iapply (load_stv A c 1) $$ Hv1; iintro Hv1
  iapply (ended c _)
  iapply Hk $$ HO Hk1 Hv1 Hkb Hvb

/-- Head 1's output; the keys of head 2 cast. -/
theorem part9 {Φ : FVec F S128x128 .bf16 → sProp 𝕄} (v148 : FVec F S128x1024 .bf16) (v207 : FVec F S2048x128 .bf16) (hv : k0_pay12 v207 = A.vH c 1) :
    known A K ⊢ iprop(owe c (P6 c) -∗ kFly A c 2 -∗ kbPts A c 2 -∗ vbPts A c 1
      -∗ (owe c (P6 c) -∗ kDone A c 2 -∗ kbPts A c 3 -∗ vbPts A c 2
        -∗ Φ (k0_pay13 v148 (A.kH c 1) (A.vH c 1)))
      -∗ WP c (ap (k0_part9 (F := F)) c v148 v207) Φ) := by
  simp only [ap, k0_part9_eq_skeleton]
  unfold k0_part9_skel
  simp only [Prog.lift, Prog.bind_op, Prog.bind_ret, Prog.pure_eq_ret]
  iintro #HK HO Hk2 Hkb Hvb Hk
  iapply (put_vbuf A c 1 1 rfl _ hv) $$ Hvb; iintro Hvb
  iapply (load_kbuf A c 2 1 (by decide)) $$ Hkb; iintro Hkb
  iapply (load_vbuf A c 2 1 (by decide)) $$ Hvb; iintro Hvb
  iapply (wait_k A K c 2 ((above_P6 c).mono (by decide))) $$ HK Hk2 HO; iintro ⟨Hk2, HO⟩
  iapply (load_stk A c 2) $$ Hk2; iintro Hk2
  iapply (put_kbuf A c 2 2 rfl _ rfl) $$ Hkb; iintro Hkb
  iapply (ended c _)
  iapply Hk $$ HO Hk2 Hkb Hvb

/-- Head 2's output. -/
theorem part10 {Φ : FVec F S128x128 .bf16 → sProp 𝕄} (v148 : FVec F S128x1024 .bf16) :
    known A K ⊢ iprop(owe c (P6 c) -∗ vFly A c 2 -∗ kbPts A c 3 -∗ vbPts A c 2
      -∗ (owe c (P6 c) -∗ vDone A c 2 -∗ kbPts A c 3 -∗ vbPts A c 3
        -∗ Φ (k0_pay16 v148 (A.kH c 2) (A.vH c 2)))
      -∗ WP c (ap (k0_part10 (F := F)) c v148) Φ) := by
  simp only [ap, k0_part10_eq_skeleton]
  unfold k0_part10_skel
  simp only [Prog.lift, Prog.bind_op, Prog.bind_ret, Prog.pure_eq_ret]
  iintro #HK HO Hv2 Hkb Hvb Hk
  iapply (wait_v A K c 2 ((above_P6 c).mono (by decide))) $$ HK Hv2 HO; iintro ⟨Hv2, HO⟩
  iapply (load_stv A c 2) $$ Hv2; iintro Hv2
  iapply (put_vbuf A c 2 2 rfl _ rfl) $$ Hvb; iintro Hvb
  iapply (load_kbuf A c 3 2 (by decide)) $$ Hkb; iintro Hkb
  iapply (load_vbuf A c 3 2 (by decide)) $$ Hvb; iintro Hvb
  iapply (ended c _)
  iapply Hk $$ HO Hv2 Hkb Hvb

/-- Head 3 cast; its exponentials and their sum. -/
theorem part11 {Φ : (Σ' (_ : FVec F S128x1 .f32), FVec F S128x2048 .bf16) → sProp 𝕄} (v148 : FVec F S128x1024 .bf16) :
    known A K ⊢ iprop(owe c (P6 c) -∗ kFly A c 3 -∗ vFly A c 3 -∗ kbPts A c 3 -∗ vbPts A c 3
      -∗ (owe c (P6 c) -∗ kDone A c 3 -∗ vDone A c 3 -∗ kbPts A c 4 -∗ vbPts A c 4
        -∗ Φ ⟨k0_pay20 v148 (A.kH c 3), k0_pay21 v148 (A.kH c 3)⟩)
      -∗ WP c (ap (k0_part11 (F := F)) c v148) Φ) := by
  simp only [ap, k0_part11_eq_skeleton]
  unfold k0_part11_skel
  simp only [Prog.lift, Prog.bind_op, Prog.bind_ret, Prog.pure_eq_ret]
  iintro #HK HO Hk3 Hv3 Hkb Hvb Hk
  iapply (wait_k A K c 3 ((above_P6 c).mono (by decide))) $$ HK Hk3 HO; iintro ⟨Hk3, HO⟩
  iapply (load_stk A c 3) $$ Hk3; iintro Hk3
  iapply (put_kbuf A c 3 3 rfl _ rfl) $$ Hkb; iintro Hkb
  iapply (wait_v A K c 3 ((above_P6 c).mono (by decide))) $$ HK Hv3 HO; iintro ⟨Hv3, HO⟩
  iapply (load_stv A c 3) $$ Hv3; iintro Hv3
  iapply (put_vbuf A c 3 3 rfl _ rfl) $$ Hvb; iintro Hvb
  iapply (load_kbuf A c 4 3 (by decide)) $$ Hkb; iintro Hkb
  iapply (ended c _)
  iapply Hk $$ HO Hk3 Hv3 Hkb Hvb

/-- Head 3's output; head 4 landed. -/
theorem part12 {Φ : (Σ' (_ : FVec F S128x128 .bf16), FVec F S2048x128 .f32) → sProp 𝕄} (v293 : FVec F S128x1 .f32) (v294 : FVec F S128x2048 .bf16) :
    known A K ⊢ iprop(owe c (P6 c) -∗ kFly A c 4 -∗ vFly A c 4 -∗ kbPts A c 4 -∗ vbPts A c 4
      -∗ (owe c (P6 c) -∗ kDone A c 4 -∗ vDone A c 4 -∗ kbPts A c 5 -∗ vbPts A c 4
        -∗ Φ ⟨k0_pay22 v293 v294 (A.vH c 3), k0_pay24 (kvSlot (A.k c) (A.v c) c 1 4)⟩)
      -∗ WP c (ap (k0_part12 (F := F)) c v293 v294) Φ) := by
  simp only [ap, k0_part12_eq_skeleton]
  unfold k0_part12_skel
  simp only [Prog.lift, Prog.bind_op, Prog.bind_ret, Prog.pure_eq_ret]
  iintro #HK HO Hk4 Hv4 Hkb Hvb Hk
  iapply (load_vbuf A c 4 3 (by decide)) $$ Hvb; iintro Hvb
  iapply (wait_k A K c 4 ((above_P6 c).mono (by decide))) $$ HK Hk4 HO; iintro ⟨Hk4, HO⟩
  iapply (load_stk A c 4) $$ Hk4; iintro Hk4
  iapply (put_kbuf A c 4 4 rfl _ rfl) $$ Hkb; iintro Hkb
  iapply (wait_v A K c 4 ((above_P6 c).mono (by decide))) $$ HK Hv4 HO; iintro ⟨Hv4, HO⟩
  iapply (load_stv A c 4) $$ Hv4; iintro Hv4
  iapply (ended c _)
  iapply Hk $$ HO Hk4 Hv4 Hkb Hvb

/-- Head 4's output; the keys of head 5 cast. -/
theorem part13 {Φ : FVec F S128x128 .bf16 → sProp 𝕄} (v148 : FVec F S128x1024 .bf16) (v320 : FVec F S2048x128 .f32) (hv : k0_pay25 v320 = A.vH c 4) :
    known A K ⊢ iprop(owe c (P6 c) -∗ kFly A c 5 -∗ kbPts A c 5 -∗ vbPts A c 4
      -∗ (owe c (P6 c) -∗ kDone A c 5 -∗ kbPts A c 6 -∗ vbPts A c 5
        -∗ Φ (k0_pay26 v148 (A.kH c 4) (A.vH c 4)))
      -∗ WP c (ap (k0_part13 (F := F)) c v148 v320) Φ) := by
  simp only [ap, k0_part13_eq_skeleton]
  unfold k0_part13_skel
  simp only [Prog.lift, Prog.bind_op, Prog.bind_ret, Prog.pure_eq_ret]
  iintro #HK HO Hk5 Hkb Hvb Hk
  iapply (put_vbuf A c 4 4 rfl _ hv) $$ Hvb; iintro Hvb
  iapply (load_kbuf A c 5 4 (by decide)) $$ Hkb; iintro Hkb
  iapply (load_vbuf A c 5 4 (by decide)) $$ Hvb; iintro Hvb
  iapply (wait_k A K c 5 ((above_P6 c).mono (by decide))) $$ HK Hk5 HO; iintro ⟨Hk5, HO⟩
  iapply (load_stk A c 5) $$ Hk5; iintro Hk5
  iapply (put_kbuf A c 5 5 rfl _ rfl) $$ Hkb; iintro Hkb
  iapply (ended c _)
  iapply Hk $$ HO Hk5 Hkb Hvb

/-- Head 5's output. -/
theorem part14 {Φ : FVec F S128x128 .bf16 → sProp 𝕄} (v148 : FVec F S128x1024 .bf16) :
    known A K ⊢ iprop(owe c (P6 c) -∗ vFly A c 5 -∗ kbPts A c 6 -∗ vbPts A c 5
      -∗ (owe c (P6 c) -∗ vDone A c 5 -∗ kbPts A c 6 -∗ vbPts A c 6
        -∗ Φ (k0_pay29 v148 (A.kH c 5) (A.vH c 5)))
      -∗ WP c (ap (k0_part14 (F := F)) c v148) Φ) := by
  simp only [ap, k0_part14_eq_skeleton]
  unfold k0_part14_skel
  simp only [Prog.lift, Prog.bind_op, Prog.bind_ret, Prog.pure_eq_ret]
  iintro #HK HO Hv5 Hkb Hvb Hk
  iapply (wait_v A K c 5 ((above_P6 c).mono (by decide))) $$ HK Hv5 HO; iintro ⟨Hv5, HO⟩
  iapply (load_stv A c 5) $$ Hv5; iintro Hv5
  iapply (put_vbuf A c 5 5 rfl _ rfl) $$ Hvb; iintro Hvb
  iapply (load_kbuf A c 6 5 (by decide)) $$ Hkb; iintro Hkb
  iapply (load_vbuf A c 6 5 (by decide)) $$ Hvb; iintro Hvb
  iapply (ended c _)
  iapply Hk $$ HO Hv5 Hkb Hvb

/-- Head 6 cast; its scores. -/
theorem part15 {Φ : FVec F S128x2048 .f32 → sProp 𝕄} (v148 : FVec F S128x1024 .bf16) :
    known A K ⊢ iprop(owe c (P6 c) -∗ kFly A c 6 -∗ vFly A c 6 -∗ kbPts A c 6 -∗ vbPts A c 6
      -∗ (owe c (P6 c) -∗ kDone A c 6 -∗ vDone A c 6 -∗ kbPts A c 7 -∗ vbPts A c 7
        -∗ Φ (k0_pay32 v148 (A.kH c 6)))
      -∗ WP c (ap (k0_part15 (F := F)) c v148) Φ) := by
  simp only [ap, k0_part15_eq_skeleton]
  unfold k0_part15_skel
  simp only [Prog.lift, Prog.bind_op, Prog.bind_ret, Prog.pure_eq_ret]
  iintro #HK HO Hk6 Hv6 Hkb Hvb Hk
  iapply (wait_k A K c 6 ((above_P6 c).mono (by decide))) $$ HK Hk6 HO; iintro ⟨Hk6, HO⟩
  iapply (load_stk A c 6) $$ Hk6; iintro Hk6
  iapply (put_kbuf A c 6 6 rfl _ rfl) $$ Hkb; iintro Hkb
  iapply (wait_v A K c 6 ((above_P6 c).mono (by decide))) $$ HK Hv6 HO; iintro ⟨Hv6, HO⟩
  iapply (load_stv A c 6) $$ Hv6; iintro Hv6
  iapply (put_vbuf A c 6 6 rfl _ rfl) $$ Hvb; iintro Hvb
  iapply (load_kbuf A c 7 6 (by decide)) $$ Hkb; iintro Hkb
  iapply (ended c _)
  iapply Hk $$ HO Hk6 Hv6 Hkb Hvb

/-- Head 6's output; head 7 landed, its keys cast. -/
theorem part16 {Φ : FVec F S128x128 .bf16 → sProp 𝕄} (v405 : FVec F S128x2048 .f32) :
    known A K ⊢ iprop(owe c (P6 c) -∗ kFly A c 7 -∗ vFly A c 7 -∗ kbPts A c 7 -∗ vbPts A c 7
      -∗ (owe c (P6 c) -∗ kDone A c 7 -∗ vDone A c 7 -∗ kbPts A c 8 -∗ vbPts A c 7
        -∗ Φ (k0_pay33 v405 (A.vH c 6)))
      -∗ WP c (ap (k0_part16 (F := F)) c v405) Φ) := by
  simp only [ap, k0_part16_eq_skeleton]
  unfold k0_part16_skel
  simp only [Prog.lift, Prog.bind_op, Prog.bind_ret, Prog.pure_eq_ret]
  iintro #HK HO Hk7 Hv7 Hkb Hvb Hk
  iapply (load_vbuf A c 7 6 (by decide)) $$ Hvb; iintro Hvb
  iapply (wait_k A K c 7 ((above_P6 c).mono (by decide))) $$ HK Hk7 HO; iintro ⟨Hk7, HO⟩
  iapply (load_stk A c 7) $$ Hk7; iintro Hk7
  iapply (put_kbuf A c 7 7 rfl _ rfl) $$ Hkb; iintro Hkb
  iapply (wait_v A K c 7 ((above_P6 c).mono (by decide))) $$ HK Hv7 HO; iintro ⟨Hv7, HO⟩
  iapply (ended c _)
  iapply Hk $$ HO Hk7 Hv7 Hkb Hvb

/-- The values of head 7 cast, and the first block stored for sending. -/
theorem part17 {Φ : PUnit → sProp 𝕄} (v7 : BitVec 32) (v148 : FVec F S128x1024 .bf16) (v186 v224 v262 v300 v338 v376 v414 : FVec F S128x128 .bf16) {f0 : Vec F S3x128x1024 .f32}
    (hw : k0_pay36 v148 v186 v224 v262 v300 v338 v376 v414 (A.kH c 7) (A.vH c 7) (A.wob c) = A.acc 0 c) :
    vDone A c 7 ⊢ iprop(kbPts A c 8 -∗ vbPts A c 7 -∗ wobPts c (A.wob c) -∗ sndPts c 0 f0
      -∗ (vDone A c 7 -∗ kbPts A c 8 -∗ vbPts A c 8 -∗ wobPts c (A.wob c) -∗ sndPts c 0 (A.snd c)
        -∗ Φ ⟨⟩)
      -∗ WP c (ap (k0_part17 (F := F)) v7 v148 v186 v224 v262 v300 v338 v376 v414) Φ) := by
  simp only [ap, k0_part17_eq_skeleton]
  unfold k0_part17_skel
  simp only [Prog.lift, Prog.bind_op, Prog.bind_ret, Prog.pure_eq_ret]
  iintro Hv7 Hkb Hvb Hwob Hs Hk
  iapply (load_stv A c 7) $$ Hv7; iintro Hv7
  iapply (put_vbuf A c 7 7 rfl _ rfl) $$ Hvb; iintro Hvb
  iapply (load_kbuf A c 8 7 (by decide)) $$ Hkb; iintro Hkb
  iapply (load_vbuf A c 8 7 (by decide)) $$ Hvb; iintro Hvb
  iapply (load_wob c _) $$ Hwob; iintro Hwob
  iapply (put_snd A c 0 _ hw) $$ Hs; iintro Hs
  iapply (ended c _)
  iapply Hk $$ Hv7 Hkb Hvb Hwob Hs

end Cert.KernelIdeal.Ring
-- ==== Proof.Parts2.lean ====
/-
  The second stretch of the run, part by part: the three blocks that are summed on the way round, the gather, the last waits.
-/
module

public import proofs.«01_k».proof.Proof.Parts1

@[expose] public section

set_option maxRecDepth 8192

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (K : Dev nD × CI → ℕ) (c : Dev nD)

/-- The activations, the cast weights and the cast heads, which the rest of the run only reads. -/
def ready : sProp 𝕄 := iprop(xPts c (A.x c) ∗ wqbPts c (A.wqb c) ∗ wobPts c (A.wob c) ∗ kbPts A c 8 ∗ vbPts A c 8)

/-- The block that device `c` adds its part to at step `j`. -/
abbrev blk (j : ℕ) : Fin 4 := ⟨(c.val + 3 - j) % 4, Nat.mod_lt _ (by decide)⟩

theorem ready_x {α : Type} {Q : α → sProp 𝕄} (off : Fin 2 → ℕ) (r : Fin 4) (ho : off = ![128 * r.val, 0]) {inb} {hl : xM.view.LoadsAt (Rect.unit (s := S512x1024) off S128x1024.size inb).toLoadRect}
    {k : Vec F S128x1024 .f32 → Prog (TpuEff nD τ sig (Elt F) Λ₀ .tc) α} :
    ready A c ⊢ iprop((ready A c -∗ WP c (k (rowsOf (A.x c) r)) Q) -∗ WP c (.op (.load xM (Rect.unit (s := S512x1024) off S128x1024.size inb).toLoadRect hl) k) Q) := by
  unfold ready
  iintro ⟨H0, H1, H2, H3, H4⟩ Hk
  iapply (load_x c off r ho (A.x c)) $$ H0; iintro H0
  iapply Hk
  isplitl [H0]; · iexact H0
  isplitl [H1]; · iexact H1
  isplitl [H2]; · iexact H2
  isplitl [H3] <;> iassumption

theorem ready_wq {α : Type} {Q : α → sProp 𝕄}  {hl : wqbM.view.LoadsAt wR.toLoadRect}
    {k : Vec F S1024x1024 .bf16 → Prog (TpuEff nD τ sig (Elt F) Λ₀ .tc) α} :
    ready A c ⊢ iprop((ready A c -∗ WP c (k (A.wqb c)) Q) -∗ WP c (.op (.load wqbM wR.toLoadRect hl) k) Q) := by
  unfold ready
  iintro ⟨H0, H1, H2, H3, H4⟩ Hk
  iapply (load_wqb c (A.wqb c)) $$ H1; iintro H1
  iapply Hk
  isplitl [H0]; · iexact H0
  isplitl [H1]; · iexact H1
  isplitl [H2]; · iexact H2
  isplitl [H3] <;> iassumption

theorem ready_wo {α : Type} {Q : α → sProp 𝕄}  {hl : wobM.view.LoadsAt wR.toLoadRect}
    {k : Vec F S1024x1024 .bf16 → Prog (TpuEff nD τ sig (Elt F) Λ₀ .tc) α} :
    ready A c ⊢ iprop((ready A c -∗ WP c (k (A.wob c)) Q) -∗ WP c (.op (.load wobM wR.toLoadRect hl) k) Q) := by
  unfold ready
  iintro ⟨H0, H1, H2, H3, H4⟩ Hk
  iapply (load_wob c (A.wob c)) $$ H2; iintro H2
  iapply Hk
  isplitl [H0]; · iexact H0
  isplitl [H1]; · iexact H1
  isplitl [H2]; · iexact H2
  isplitl [H3] <;> iassumption

theorem ready_k {α : Type} {Q : α → sProp 𝕄} (h : Fin 8) {hl : kbM.view.LoadsAt (headR h).toLoadRect}
    {k : Vec F S1x2048x128 .bf16 → Prog (TpuEff nD τ sig (Elt F) Λ₀ .tc) α} :
    ready A c ⊢ iprop((ready A c -∗ WP c (k (A.kH c h)) Q) -∗ WP c (.op (.load kbM (headR h).toLoadRect hl) k) Q) := by
  unfold ready
  iintro ⟨H0, H1, H2, H3, H4⟩ Hk
  iapply (load_kbuf A c 8 h h.isLt) $$ H3; iintro H3
  iapply Hk
  isplitl [H0]; · iexact H0
  isplitl [H1]; · iexact H1
  isplitl [H2]; · iexact H2
  isplitl [H3] <;> iassumption

theorem ready_v {α : Type} {Q : α → sProp 𝕄} (h : Fin 8) {hl : vbM.view.LoadsAt (headR h).toLoadRect}
    {k : Vec F S1x2048x128 .bf16 → Prog (TpuEff nD τ sig (Elt F) Λ₀ .tc) α} :
    ready A c ⊢ iprop((ready A c -∗ WP c (k (A.vH c h)) Q) -∗ WP c (.op (.load vbM (headR h).toLoadRect hl) k) Q) := by
  unfold ready
  iintro ⟨H0, H1, H2, H3, H4⟩ Hk
  iapply (load_vbuf A c 8 h h.isLt) $$ H4; iintro H4
  iapply Hk
  isplitl [H0]; · iexact H0
  isplitl [H1]; · iexact H1
  isplitl [H2]; · iexact H2
  isplitl [H3] <;> iassumption

/-- The first block sent to the right; the second block's queries, head 0, head 1's exponentials. -/
theorem part18 {Φ : (Σ' (_ : FVec F S128x1024 .bf16) (_ : FVec F S128x128 .bf16), FVec F S128x2048 .f32) → sProp 𝕄} (v2 : BitVec 32) {fr : Vec F S3x128x1024 .f32} :
    known A K ⊢ iprop(ready A c -∗ sndPts c 0 (A.snd c) -∗ rcvPts (nxt c) 0 fr -∗ beside c 0 -∗ owe c (P6 c) -∗ dutyTok ER (sndC c 0) 0 false -∗ dutyTok ER (rcvC (nxt c) 0) 0 false
      -∗ (ready A c -∗ owe c (P5 c) -∗ cred (tallyAt (sndC c 0) () NR)
        -∗ Φ ⟨k0_pay37 (rowsOf (A.x c) (blk c 0)) (A.wqb c), k0_pay38 (rowsOf (A.x c) (blk c 0)) (A.wqb c) (A.kH c 0) (A.vH c 0), k0_pay39 (rowsOf (A.x c) (blk c 0)) (A.wqb c) (A.kH c 1)⟩)
      -∗ WP c (ap (k0_part18 (F := F)) c v2) Φ) := by
  simp only [ap, k0_part18_eq_skeleton]
  unfold k0_part18_skel
  simp only [Prog.lift, Prog.bind_op, Prog.bind_ret, Prog.pure_eq_ret]
  unfold P6
  iintro #HK HR Hs Hd Hb HO Ht1 Ht2 Hk
  iapply (send_sum A K c 0 _ (dev3_eq c) (O := P5 c)) $$ HK Hs Hd Hb HO Ht1 Ht2; iintro ⟨HO, Hcr⟩
  iapply (ready_x A c _ (blk c 0) (k0_off3_eq c 0)) $$ HR; iintro HR
  iapply (ready_wq A c) $$ HR; iintro HR
  iapply (ready_k A c 0) $$ HR; iintro HR
  iapply (ready_v A c 0) $$ HR; iintro HR
  iapply (ready_k A c 1) $$ HR; iintro HR
  iapply (ended c _)
  iapply Hk $$ HR HO Hcr

/-- Heads 1 to 3 of the second block. -/
theorem part19 {Φ : (Σ' (_ : FVec F S128x128 .bf16) (_ : FVec F S128x128 .bf16), FVec F S128x128 .f32) → sProp 𝕄} (v480 : FVec F S128x1024 .bf16) (v498 : FVec F S128x2048 .f32) :
    ready A c ⊢ iprop((ready A c
        -∗ Φ ⟨k0_pay40 v498 (A.vH c 1), k0_pay41 v480 (A.kH c 2) (A.vH c 2), k0_pay42 v480 (A.kH c 3) (A.vH c 3)⟩)
      -∗ WP c (ap (k0_part19 (F := F)) v480 v498) Φ) := by
  simp only [ap, k0_part19_eq_skeleton]
  unfold k0_part19_skel
  simp only [Prog.lift, Prog.bind_op, Prog.bind_ret, Prog.pure_eq_ret]
  iintro HR Hk
  iapply (ready_v A c 1) $$ HR; iintro HR
  iapply (ready_k A c 2) $$ HR; iintro HR
  iapply (ready_v A c 2) $$ HR; iintro HR
  iapply (ready_k A c 3) $$ HR; iintro HR
  iapply (ready_v A c 3) $$ HR; iintro HR
  iapply (ended c _)
  iapply Hk $$ HR

/-- Heads 3 to 6 of the second block. -/
theorem part20 {Φ : (Σ' (_ : FVec F S128x128 .bf16) (_ : FVec F S128x128 .bf16) (_ : FVec F S128x128 .bf16) (_ : FVec F S128x1 .f32), FVec F S128x2048 .bf16) → sProp 𝕄} (v480 : FVec F S128x1024 .bf16) (v535 : FVec F S128x128 .f32) :
    ready A c ⊢ iprop((ready A c
        -∗ Φ ⟨k0_pay43 v535, k0_pay44 v480 (A.kH c 4) (A.vH c 4), k0_pay45 v480 (A.kH c 5) (A.vH c 5), k0_pay47 v480 (A.kH c 6), k0_pay48 v480 (A.kH c 6)⟩)
      -∗ WP c (ap (k0_part20 (F := F)) v480 v535) Φ) := by
  simp only [ap, k0_part20_eq_skeleton]
  unfold k0_part20_skel
  simp only [Prog.lift, Prog.bind_op, Prog.bind_ret, Prog.pure_eq_ret]
  iintro HR Hk
  iapply (ready_k A c 4) $$ HR; iintro HR
  iapply (ready_v A c 4) $$ HR; iintro HR
  iapply (ready_k A c 5) $$ HR; iintro HR
  iapply (ready_v A c 5) $$ HR; iintro HR
  iapply (ready_k A c 6) $$ HR; iintro HR
  iapply (ended c _)
  iapply Hk $$ HR

/-- The second block projected; the wait for the first sum from the left. -/
theorem part21 {Φ : FVec F S128x1024 .f32 → sProp 𝕄} (v7 : BitVec 32) (v480 : FVec F S128x1024 .bf16) (v494 v508 v522 v536 v550 v564 : FVec F S128x128 .bf16) (v571 : FVec F S128x1 .f32) (v572 : FVec F S128x2048 .bf16) :
    known A K ⊢ iprop(ready A c -∗ cred (tallyAt (rcvC c 0) () NR) -∗ atPos ER (rcvC c 0) 0 ∅ 0 -∗ owe c (P5 c)
      -∗ (ready A c -∗ owe c (P5 c) -∗ rcvPay A c 0 -∗ semVal (rcvC c 0) 0
        -∗ Φ (k0_pay49 v480 v494 v508 v522 v536 v550 v564 v571 v572 (A.vH c 6) (A.kH c 7) (A.vH c 7) (A.wob c)))
      -∗ WP c (ap (k0_part21 (F := F)) v7 v480 v494 v508 v522 v536 v550 v564 v571 v572) Φ) := by
  simp only [ap, k0_part21_eq_skeleton]
  unfold k0_part21_skel
  simp only [Prog.lift, Prog.bind_op, Prog.bind_ret, Prog.pure_eq_ret]
  iintro #HK HR Hc Ha HO Hk
  iapply (ready_v A c 6) $$ HR; iintro HR
  iapply (ready_k A c 7) $$ HR; iintro HR
  iapply (ready_v A c 7) $$ HR; iintro HR
  iapply (ready_wo A c) $$ HR; iintro HR
  iapply (wait_rcv A K c 0 (above_P5 c)) $$ HK Hc Ha HO; iintro ⟨HO, Hp, Hz⟩
  iapply (ended c _)
  iapply Hk $$ HR HO Hp Hz

/-- The second sum stored and sent; the third block's queries. -/
theorem part22 {Φ : (Σ' (_ : FVec F S128x1024 .bf16) (_ : FVec F S128x128 .bf16) (_ : FVec F S2048x128 .bf16), FVec F S128x2048 .f32) → sProp 𝕄} (v2 v7 : BitVec 32) (v595 : FVec F S128x1024 .f32) (hw : k0_pay50 v595 (A.acc 0 (prv c)) = A.acc 1 c) {fr : Vec F S3x128x1024 .f32} {fs : Vec F S3x128x1024 .f32} :
    known A K ⊢ iprop(ready A c -∗ rcvPts c 0 (A.rcv c) -∗ sndPts c 1 fs -∗ rcvPts (nxt c) 1 fr -∗ beside c 1 -∗ owe c (P5 c) -∗ dutyTok ER (sndC c 1) 0 false -∗ dutyTok ER (rcvC (nxt c) 1) 0 false
      -∗ (ready A c -∗ rcvPts c 0 (A.rcv c) -∗ owe c (P4 c) -∗ cred (tallyAt (sndC c 1) () NR)
        -∗ Φ ⟨k0_pay51 (rowsOf (A.x c) (blk c 1)) (A.wqb c), k0_pay52 (rowsOf (A.x c) (blk c 1)) (A.wqb c), k0_pay53 (A.kH c 0), constant S128x2048 .f32 0x00000000#32⟩)
      -∗ WP c (ap (k0_part22 (F := F)) c v2 v7 v595) Φ) := by
  simp only [ap, k0_part22_eq_skeleton]
  unfold k0_part22_skel
  simp only [Prog.lift, Prog.bind_op, Prog.bind_ret, Prog.pure_eq_ret]
  unfold P5
  iintro #HK HR Hr Hs Hd Hb HO Ht1 Ht2 Hk
  iapply (load_rcv A c 0 0 rfl) $$ Hr; iintro Hr
  iapply (put_snd A c 1 _ hw) $$ Hs; iintro Hs
  iapply (send_sum A K c 1 _ (dev4_eq c) (O := P4 c)) $$ HK Hs Hd Hb HO Ht1 Ht2; iintro ⟨HO, Hcr⟩
  iapply (ready_x A c _ (blk c 1) (k0_off3_eq c 1)) $$ HR; iintro HR
  iapply (ready_wq A c) $$ HR; iintro HR
  iapply (ready_k A c 0) $$ HR; iintro HR
  iapply (ended c _)
  iapply Hk $$ HR Hr HO Hcr

/-- Heads 0 to 2 of the third block. -/
theorem part23 {Φ : (Σ' (_ : FVec F S128x128 .bf16) (_ : FVec F S128x128 .bf16) (_ : FVec F S128x128 .f32), FVec F S128x128 .f32) → sProp 𝕄} (v631 : FVec F S128x1024 .bf16) (v632 : FVec F S128x128 .bf16) (v634 : FVec F S2048x128 .bf16) (cst : FVec F S128x2048 .f32) :
    ready A c ⊢ iprop((ready A c
        -∗ Φ ⟨k0_pay54 v632 v634 cst (A.vH c 0), k0_pay55 v631 (A.kH c 1) (A.vH c 1), k0_pay57 v631 (A.kH c 2) (A.vH c 2), k0_pay58 v631 (A.kH c 2)⟩)
      -∗ WP c (ap (k0_part23 (F := F)) v631 v632 v634 cst) Φ) := by
  simp only [ap, k0_part23_eq_skeleton]
  unfold k0_part23_skel
  simp only [Prog.lift, Prog.bind_op, Prog.bind_ret, Prog.pure_eq_ret]
  iintro HR Hk
  iapply (ready_v A c 0) $$ HR; iintro HR
  iapply (ready_k A c 1) $$ HR; iintro HR
  iapply (ready_v A c 1) $$ HR; iintro HR
  iapply (ready_k A c 2) $$ HR; iintro HR
  iapply (ready_v A c 2) $$ HR; iintro HR
  iapply (ended c _)
  iapply Hk $$ HR

/-- Heads 2 to 5 of the third block. -/
theorem part24 {Φ : (Σ' (_ : FVec F S128x128 .bf16) (_ : FVec F S128x128 .bf16) (_ : FVec F S128x128 .bf16) (_ : FVec F S128x2048 .f32), FVec F S128x1 .f32) → sProp 𝕄} (v631 : FVec F S128x1024 .bf16) (v670 v671 : FVec F S128x128 .f32) :
    ready A c ⊢ iprop((ready A c
        -∗ Φ ⟨k0_pay59 v670 v671, k0_pay60 v631 (A.kH c 3) (A.vH c 3), k0_pay61 v631 (A.kH c 4) (A.vH c 4), k0_pay62 v631 (A.kH c 5), k0_pay63 v631 (A.kH c 5)⟩)
      -∗ WP c (ap (k0_part24 (F := F)) v631 v670 v671) Φ) := by
  simp only [ap, k0_part24_eq_skeleton]
  unfold k0_part24_skel
  simp only [Prog.lift, Prog.bind_op, Prog.bind_ret, Prog.pure_eq_ret]
  iintro HR Hk
  iapply (ready_k A c 3) $$ HR; iintro HR
  iapply (ready_v A c 3) $$ HR; iintro HR
  iapply (ready_k A c 4) $$ HR; iintro HR
  iapply (ready_v A c 4) $$ HR; iintro HR
  iapply (ready_k A c 5) $$ HR; iintro HR
  iapply (ended c _)
  iapply Hk $$ HR

/-- The heads of the third block side by side. -/
theorem part25 {Φ : FVec F S128x1024 .bf16 → sProp 𝕄} (v631 : FVec F S128x1024 .bf16) (v645 v659 v673 v687 v701 : FVec F S128x128 .bf16) (v706 : FVec F S128x2048 .f32) (v708 : FVec F S128x1 .f32) :
    ready A c ⊢ iprop((ready A c
        -∗ Φ (k0_pay64 v631 v645 v659 v673 v687 v701 v706 v708 (A.vH c 5) (A.kH c 6) (A.vH c 6) (A.kH c 7) (A.vH c 7)))
      -∗ WP c (ap (k0_part25 (F := F)) v631 v645 v659 v673 v687 v701 v706 v708) Φ) := by
  simp only [ap, k0_part25_eq_skeleton]
  unfold k0_part25_skel
  simp only [Prog.lift, Prog.bind_op, Prog.bind_ret, Prog.pure_eq_ret]
  iintro HR Hk
  iapply (ready_v A c 5) $$ HR; iintro HR
  iapply (ready_k A c 6) $$ HR; iintro HR
  iapply (ready_v A c 6) $$ HR; iintro HR
  iapply (ready_k A c 7) $$ HR; iintro HR
  iapply (ready_v A c 7) $$ HR; iintro HR
  iapply (ended c _)
  iapply Hk $$ HR

/-- The third sum stored and sent. -/
theorem part26 {Φ : BitVec 32 → sProp 𝕄} (v2 v7 : BitVec 32) (v744 : FVec F S128x1024 .bf16) (hw : k0_pay65 v744 (A.wob c) (A.acc 1 (prv c)) = A.acc 2 c) {fr : Vec F S3x128x1024 .f32} {fs : Vec F S3x128x1024 .f32} :
    known A K ⊢ iprop(ready A c -∗ cred (tallyAt (rcvC c 1) () NR) -∗ atPos ER (rcvC c 1) 0 ∅ 0 -∗ owe c (P4 c) -∗ sndPts c 2 fs -∗ rcvPts (nxt c) 2 fr -∗ beside c 2 -∗ dutyTok ER (sndC c 2) 0 false -∗ dutyTok ER (rcvC (nxt c) 2) 0 false
      -∗ (ready A c -∗ rcvPts c 1 (A.rcv c) -∗ semVal (rcvC c 1) 0 -∗ owe c (P3 c) -∗ cred (tallyAt (sndC c 2) () NR)
        -∗ ∀ v, Φ v)
      -∗ WP c (ap (k0_part26 (F := F)) c v2 v7 v744) Φ) := by
  simp only [ap, k0_part26_eq_skeleton]
  unfold k0_part26_skel
  simp only [Prog.lift, Prog.bind_op, Prog.bind_ret, Prog.pure_eq_ret]
  iintro #HK HR Hc Ha HO Hs Hd Hb Ht1 Ht2 Hk
  iapply (ready_wo A c) $$ HR; iintro HR
  iapply (wait_rcv A K c 1 (above_P4 c)) $$ HK Hc Ha HO; iintro ⟨HO, Hp, Hz⟩
  unfold rcvPay
  icases Hp with ⟨Hr, Hp⟩
  iapply (load_rcv A c 1 1 rfl) $$ Hr; iintro Hr
  iapply (put_snd A c 2 _ hw) $$ Hs; iintro Hs
  ihave HO := (Entails.of_eq (show (owe c (P4 c) : sProp 𝕄) = owe c (P3 c + tallyAt (rcvC (nxt c) 2) () NR) from rfl)) $$ HO
  iapply (send_sum A K c 2 _ (dev5_eq c) (O := P3 c)) $$ HK Hs Hd Hb HO Ht1 Ht2; iintro ⟨HO, Hcr⟩
  iapply (ended c _)
  iapply Hk $$ HR Hr Hz HO Hcr

/-- The fourth block's queries, and its first two heads. -/
theorem part27 {Φ : (Σ' (_ : FVec F S128x1024 .bf16) (_ : FVec F S128x128 .bf16) (_ : FVec F S128x1 .f32), FVec F S128x128 .f32) → sProp 𝕄} (v772 : BitVec 32) :
    ready A c ⊢ iprop((ready A c
        -∗ Φ ⟨k0_pay66 (rowsOf (A.x c) (blk c 2)) (A.wqb c), k0_pay67 (rowsOf (A.x c) (blk c 2)) (A.wqb c) (A.kH c 0) (A.vH c 0), k0_pay69 (rowsOf (A.x c) (blk c 2)) (A.wqb c) (A.kH c 1), k0_pay70 (rowsOf (A.x c) (blk c 2)) (A.wqb c) (A.kH c 1) (A.vH c 1)⟩)
      -∗ WP c (ap (k0_part27 (F := F)) c v772) Φ) := by
  simp only [ap, k0_part27_eq_skeleton]
  unfold k0_part27_skel
  simp only [Prog.lift, Prog.bind_op, Prog.bind_ret, Prog.pure_eq_ret]
  iintro HR Hk
  iapply (ready_x A c _ (blk c 2) (k0_off3_eq c 2)) $$ HR; iintro HR
  iapply (ready_wq A c) $$ HR; iintro HR
  iapply (ready_k A c 0) $$ HR; iintro HR
  iapply (ready_v A c 0) $$ HR; iintro HR
  iapply (ready_k A c 1) $$ HR; iintro HR
  iapply (ready_v A c 1) $$ HR; iintro HR
  iapply (ended c _)
  iapply Hk $$ HR

/-- Heads 1 to 4 of the fourth block. -/
theorem part28 {Φ : (Σ' (_ : FVec F S128x128 .bf16) (_ : FVec F S128x128 .bf16) (_ : FVec F S128x128 .bf16) (_ : FVec F S128x2048 .f32), FVec F S128 .f32) → sProp 𝕄} (v782 : FVec F S128x1024 .bf16) (v803 : FVec F S128x1 .f32) (v807 : FVec F S128x128 .f32) :
    ready A c ⊢ iprop((ready A c
        -∗ Φ ⟨k0_pay71 v803 v807, k0_pay72 v782 (A.kH c 2) (A.vH c 2), k0_pay73 v782 (A.kH c 3) (A.vH c 3), k0_pay74 v782 (A.kH c 4), k0_pay75 v782 (A.kH c 4)⟩)
      -∗ WP c (ap (k0_part28 (F := F)) v782 v803 v807) Φ) := by
  simp only [ap, k0_part28_eq_skeleton]
  unfold k0_part28_skel
  simp only [Prog.lift, Prog.bind_op, Prog.bind_ret, Prog.pure_eq_ret]
  iintro HR Hk
  iapply (ready_k A c 2) $$ HR; iintro HR
  iapply (ready_v A c 2) $$ HR; iintro HR
  iapply (ready_k A c 3) $$ HR; iintro HR
  iapply (ready_v A c 3) $$ HR; iintro HR
  iapply (ready_k A c 4) $$ HR; iintro HR
  iapply (ended c _)
  iapply Hk $$ HR

/-- Heads 4 to 6 of the fourth block. -/
theorem part29 {Φ : (Σ' (_ : FVec F S128x128 .bf16) (_ : FVec F S128x128 .bf16) (_ : FVec F S128x128 .bf16), FVec F S128x128 .bf16) → sProp 𝕄} (v782 : FVec F S128x1024 .bf16) (v843 : FVec F S128x2048 .f32) (v844 : FVec F S128 .f32) :
    ready A c ⊢ iprop((ready A c
        -∗ Φ ⟨k0_pay76 v843 v844 (A.vH c 4), k0_pay77 v782 (A.kH c 5) (A.vH c 5), k0_pay78 v782 (A.kH c 6) (A.vH c 6), k0_pay79 v782⟩)
      -∗ WP c (ap (k0_part29 (F := F)) v782 v843 v844) Φ) := by
  simp only [ap, k0_part29_eq_skeleton]
  unfold k0_part29_skel
  simp only [Prog.lift, Prog.bind_op, Prog.bind_ret, Prog.pure_eq_ret]
  iintro HR Hk
  iapply (ready_v A c 4) $$ HR; iintro HR
  iapply (ready_k A c 5) $$ HR; iintro HR
  iapply (ready_v A c 5) $$ HR; iintro HR
  iapply (ready_k A c 6) $$ HR; iintro HR
  iapply (ready_v A c 6) $$ HR; iintro HR
  iapply (ended c _)
  iapply Hk $$ HR

/-- The fourth block projected and added to the third sum from the left. -/
theorem part30 {Φ : FVec F S128x1024 .f32 → sProp 𝕄} (v2 v7 : BitVec 32) (v796 v810 v824 v838 v852 v866 v880 v881 : FVec F S128x128 .bf16) :
    known A K ⊢ iprop(ready A c -∗ cred (tallyAt (rcvC c 2) () NR) -∗ atPos ER (rcvC c 2) 0 ∅ 0 -∗ owe c (P3 c)
      -∗ (ready A c -∗ owe c (P3 c) -∗ rcvPts c 2 (A.rcv c) -∗ semVal (rcvC c 2) 0
        -∗ Φ (k0_pay80 v796 v810 v824 v838 v852 v866 v880 v881 (A.kH c 7) (A.vH c 7) (A.wob c) (A.acc 2 (prv c))))
      -∗ WP c (ap (k0_part30 (F := F)) v2 v7 v796 v810 v824 v838 v852 v866 v880 v881) Φ) := by
  simp only [ap, k0_part30_eq_skeleton]
  unfold k0_part30_skel
  simp only [Prog.lift, Prog.bind_op, Prog.bind_ret, Prog.pure_eq_ret]
  iintro #HK HR Hc Ha HO Hk
  iapply (ready_k A c 7) $$ HR; iintro HR
  iapply (ready_v A c 7) $$ HR; iintro HR
  iapply (ready_wo A c) $$ HR; iintro HR
  iapply (wait_rcv A K c 2 (above_P3 c)) $$ HK Hc Ha HO; iintro ⟨HO, Hp, Hz⟩
  unfold rcvPay
  icases Hp with ⟨Hr, Hp⟩
  iapply (load_rcv A c 2 2 rfl) $$ Hr; iintro Hr
  iapply (ended c _)
  iapply Hk $$ HR HO Hr Hz

/-- The gather's transfers: the block stored in the result, cast, and sent to the three other devices. -/
theorem part31 {Φ : PUnit → sProp 𝕄} (v5 v7 v9 : BitVec 32) (v908 : FVec F S128x1024 .f32) (hf : v908 = A.fin c) {fo : Vec F S512x1024 .f32}
    {fa : Vec F S128x1024 .bf16} {g0 g1 g2 : Vec F S3x128x1024 .bf16} :
    known A K ⊢ iprop(outPts c fo -∗ agAll c fa -∗ owe c (P3 c) -∗ agrPts (nxt c) 0 g0 -∗ agrPts (prv c) 1 g1 -∗ agrPts (opp c) 2 g2
      -∗ dutyTok ER (gsC c 0) 0 false -∗ dutyTok ER (grC (nxt c) 0) 0 false -∗ dutyTok ER (gsC c 1) 0 false -∗ dutyTok ER (grC (prv c) 1) 0 false
      -∗ dutyTok ER (gsC c 2) 0 false -∗ dutyTok ER (grC (opp c) 2) 0 false
      -∗ (outPts c (putRows (nxt c) (A.fin c) fo) -∗ owe c 0 -∗ cred (tallyAt (gsC c 0) () NG) -∗ cred (tallyAt (gsC c 1) () NG)
        -∗ cred (tallyAt (gsC c 2) () NG) -∗ Φ ⟨⟩)
      -∗ WP c (ap (k0_part31 (F := F)) c v5 v7 v9 v908) Φ) := by
  subst hf
  have r (t : Dev nD) : τ.routes (c : Thread nD τ) (t : Thread nD τ) = true := by revert c t; decide
  have e : (agAll c (k0_pay81 (A.fin c)) : sProp 𝕄) = iprop(agPts c (agShare 0) (A.ag c) ∗ agPts c (agShare 1) (A.ag c) ∗ agPts c (agShare 2) (A.ag c)) :=
    ag_shares c (A.ag c)
  simp only [ap, k0_part31_eq_skeleton]
  unfold k0_part31_skel
  simp only [Prog.lift, Prog.bind_op, Prog.bind_ret, Prog.pure_eq_ret]
  rw [show P3 c = P2 c + tallyAt (grC (nxt c) 0) () NG from rfl]
  iintro #HK Ho Ha HO H0 H1 H2 Hs0 Hr0 Hs1 Hr1 Hs2 Hr2 Hk
  iapply (put_out c _ (nxt c) (k0_off4_eq c 1) _ _) $$ Ho; iintro Ho
  iapply (put_ag c _ _) $$ Ha; iintro Ha
  ihave Ha := (Entails.of_eq e) $$ Ha
  icases Ha with ⟨Ha0, Ha1, Ha2⟩
  iapply (send_block A K c 0 (nxt c) _ (dev6_eq c) (prv_nxt c) (O := P2 c) (r _)) $$ HK Ha0 H0 HO Hs0 Hr0; iintro ⟨HO, Hc0⟩
  ihave HO := (Entails.of_eq (show (owe c (P2 c) : sProp 𝕄) = owe c (P1 c + tallyAt (grC (prv c) 1) () NG) from rfl)) $$ HO
  iapply (send_block A K c 1 (prv c) _ (dev7_eq c) (nxt_prv c) (O := P1 c) (r _)) $$ HK Ha1 H1 HO Hs1 Hr1; iintro ⟨HO, Hc1⟩
  ihave HO := (Entails.of_eq (show (owe c (P1 c) : sProp 𝕄) = owe c (0 + tallyAt (grC (opp c) 2) () NG) by rw [zero_add]; rfl)) $$ HO
  iapply (send_block A K c 2 (opp c) _ (dev8_eq c) (opp_opp c) (O := 0) (r _)) $$ HK Ha2 H2 HO Hs2 Hr2; iintro ⟨HO, Hc2⟩
  iapply (ended c _)
  iapply Hk $$ Ho HO Hc0 Hc1 Hc2

/-- The blocks of the left and of the right arrive and are stored. -/
theorem part32 {Φ : PUnit → sProp 𝕄} (v2 v5 v7 : BitVec 32) {fo : Vec F S512x1024 .f32} :
    known A K ⊢ iprop(outPts c fo -∗ owe c 0 -∗ cred (tallyAt (grC c 0) () NG) -∗ atPos ER (grC c 0) 0 ∅ 0
      -∗ cred (tallyAt (grC c 1) () NG) -∗ atPos ER (grC c 1) 0 ∅ 0
      -∗ (outPts c (putRows (opp c) (k0_pay83 (agrRead A c 1)) (putRows c (k0_pay82 (agrRead A c 0)) fo)) -∗ owe c 0
        -∗ agrPts c 0 (A.agr c) -∗ semVal (grC c 0) 0 -∗ agrPts c 1 (A.agr c) -∗ semVal (grC c 1) 0 -∗ Φ ⟨⟩)
      -∗ WP c (ap (k0_part32 (F := F)) c v2 v5 v7) Φ) := by
  have h0 : k0_off4 c 0#32 = ![128 * c.val, 0] := (k0_off4_eq c 0).trans (by rw [show (c.val + (0 : Fin 4).val) % 4 = c.val from Nat.mod_eq_of_lt c.isLt])
  simp only [ap, k0_part32_eq_skeleton]
  unfold k0_part32_skel
  simp only [Prog.lift, Prog.bind_op, Prog.bind_ret, Prog.pure_eq_ret]
  iintro #HK Ho HO Hc0 Ha0 Hc1 Ha1 Hk
  iapply (wait_gr A K c 0) $$ HK Hc0 Ha0 HO; iintro ⟨HO, Hg0, Hz0⟩
  iapply (load_agrSlot A c 0) $$ Hg0; iintro Hg0
  iapply (put_out c _ c h0 _ _) $$ Ho; iintro Ho
  iapply (wait_gr A K c 1) $$ HK Hc1 Ha1 HO; iintro ⟨HO, Hg1, Hz1⟩
  iapply (load_agrSlot A c 1) $$ Hg1; iintro Hg1
  iapply (put_out c _ (opp c) (k0_off4_eq c 2) _ _) $$ Ho; iintro Ho
  iapply (ended c _)
  iapply Hk $$ Ho HO Hg0 Hz0 Hg1 Hz1

/-- The opposite block arrives and is stored; the first two sums have left. -/
theorem part33 {Φ : PUnit → sProp 𝕄} (v2 v9 : BitVec 32) {fo : Vec F S512x1024 .f32} :
    known A K ⊢ iprop(outPts c fo -∗ owe c 0 -∗ cred (tallyAt (grC c 2) () NG) -∗ atPos ER (grC c 2) 0 ∅ 0
      -∗ cred (tallyAt (sndC c 0) () NR) -∗ atPos ER (sndC c 0) 0 ∅ 0 -∗ cred (tallyAt (sndC c 1) () NR) -∗ atPos ER (sndC c 1) 0 ∅ 0
      -∗ (outPts c (putRows (prv c) (k0_pay84 (agrRead A c 2)) fo) -∗ owe c 0
        -∗ agrPts c 2 (A.agr c) -∗ semVal (grC c 2) 0 -∗ sndPts c 0 (A.snd c) -∗ semVal (sndC c 0) 0
        -∗ sndPts c 1 (A.snd c) -∗ semVal (sndC c 1) 0 -∗ Φ ⟨⟩)
      -∗ WP c (ap (k0_part33 (F := F)) c v2 v9) Φ) := by
  simp only [ap, k0_part33_eq_skeleton]
  unfold k0_part33_skel
  simp only [Prog.lift, Prog.bind_op, Prog.bind_ret, Prog.pure_eq_ret]
  iintro #HK Ho HO Hc2 Ha2 Hc0 Ha0 Hc1 Ha1 Hk
  iapply (wait_gr A K c 2) $$ HK Hc2 Ha2 HO; iintro ⟨HO, Hg2, Hz2⟩
  iapply (load_agrSlot A c 2) $$ Hg2; iintro Hg2
  iapply (put_out c _ (prv c) (k0_off4_eq c 3) _ _) $$ Ho; iintro Ho
  iapply (wait_snd A K c 0) $$ HK Hc0 Ha0 HO; iintro ⟨HO, Hs0, Hy0⟩
  iapply (wait_snd A K c 1) $$ HK Hc1 Ha1 HO; iintro ⟨HO, Hs1, Hy1⟩
  iapply (ended c _)
  iapply Hk $$ Ho HO Hg2 Hz2 Hs0 Hy0 Hs1 Hy1

end Cert.KernelIdeal.Ring
-- ==== Proof.Chunks.lean ====
/-
  The four blocks of rows that a device computes, as the program prints them, are `projOf` of the same heads: the
  program cuts one computation at different places in each of the four.
-/
module

public import proofs.«01_k».proof.Proof.Spec

@[expose] public section

set_option maxRecDepth 65536

noncomputable section

namespace Cert.KernelIdeal.Ring

open Cert.KernelIdeal Cert.KernelIdeal.Gen
open Idealize.ShloMosaic Idealize.ShloMosaic.TcCoe Idealize.SL.Sem

variable {F : FTy → Type} [FloatOps F]

/-- The first block, as it is stored for sending. -/
theorem chunk0 (q : FVec F S128x1024 .bf16) (k v : Fin 8 → Vec F S1x2048x128 .bf16) (wo : Vec F S1024x1024 .bf16) :
    k0_pay36 q (k0_pay9 (k0_pay7 q (k 0)) (k0_pay8 q (k 0)) (v 0)) (k0_pay13 q (k 1) (v 1)) (k0_pay16 q (k 2) (v 2))
      (k0_pay22 (k0_pay20 q (k 3)) (k0_pay21 q (k 3)) (v 3)) (k0_pay26 q (k 4) (v 4)) (k0_pay29 q (k 5) (v 5))
      (k0_pay33 (k0_pay32 q (k 6)) (v 6)) (k 7) (v 7) wo
      = shapeCast S1x128x1024 (projOf q k v wo) shapeCasts_S128x1024_S1x128x1024 := rfl

/-- The second block. -/
theorem chunk1 (x : Vec F S128x1024 .f32) (w : Vec F S1024x1024 .bf16) (k v : Fin 8 → Vec F S1x2048x128 .bf16) (wo : Vec F S1024x1024 .bf16) :
    k0_pay49 (k0_pay37 x w) (k0_pay38 x w (k 0) (v 0)) (k0_pay40 (k0_pay39 x w (k 1)) (v 1)) (k0_pay41 (k0_pay37 x w) (k 2) (v 2))
      (k0_pay43 (k0_pay42 (k0_pay37 x w) (k 3) (v 3))) (k0_pay44 (k0_pay37 x w) (k 4) (v 4)) (k0_pay45 (k0_pay37 x w) (k 5) (v 5))
      (k0_pay47 (k0_pay37 x w) (k 6)) (k0_pay48 (k0_pay37 x w) (k 6)) (v 6) (k 7) (v 7) wo
      = projOf (queries x w) k v wo := rfl

/-- The third block, added to what came from the left. -/
theorem chunk2 (x : Vec F S128x1024 .f32) (w : Vec F S1024x1024 .bf16) (k v : Fin 8 → Vec F S1x2048x128 .bf16) (wo : Vec F S1024x1024 .bf16)
    (r : Vec F S1x128x1024 .f32) :
    k0_pay65 (k0_pay64 (k0_pay51 x w) (k0_pay54 (k0_pay52 x w) (k0_pay53 (k 0)) (constant S128x2048 .f32 0x00000000#32) (v 0))
      (k0_pay55 (k0_pay51 x w) (k 1) (v 1)) (k0_pay59 (k0_pay57 (k0_pay51 x w) (k 2) (v 2)) (k0_pay58 (k0_pay51 x w) (k 2)))
      (k0_pay60 (k0_pay51 x w) (k 3) (v 3)) (k0_pay61 (k0_pay51 x w) (k 4) (v 4)) (k0_pay62 (k0_pay51 x w) (k 5))
      (k0_pay63 (k0_pay51 x w) (k 5)) (v 5) (k 6) (v 6) (k 7) (v 7)) wo r
      = k0_pay50 (projOf (queries x w) k v wo) r := rfl

/-- The fourth block, added to what came from the left. -/
theorem chunk3 (x : Vec F S128x1024 .f32) (w : Vec F S1024x1024 .bf16) (k v : Fin 8 → Vec F S1x2048x128 .bf16) (wo : Vec F S1024x1024 .bf16)
    (r : Vec F S1x128x1024 .f32) :
    k0_pay80 (k0_pay67 x w (k 0) (v 0)) (k0_pay71 (k0_pay69 x w (k 1)) (k0_pay70 x w (k 1) (v 1))) (k0_pay72 (k0_pay66 x w) (k 2) (v 2))
      (k0_pay73 (k0_pay66 x w) (k 3) (v 3)) (k0_pay76 (k0_pay74 (k0_pay66 x w) (k 4)) (k0_pay75 (k0_pay66 x w) (k 4)) (v 4))
      (k0_pay77 (k0_pay66 x w) (k 5) (v 5)) (k0_pay78 (k0_pay66 x w) (k 6) (v 6)) (k0_pay79 (k0_pay66 x w)) (k 7) (v 7) wo r
      = addf (shapeCast S128x1024 r shapeCasts_S1x128x1024_S128x1024) (projOf (queries x w) k v wo) := rfl

end Cert.KernelIdeal.Ring
-- ==== Proof.Body.lean ====
/-
  The body's run at a symbolic device: the parts one after the other, then the last waits.
-/
module

public import proofs.«01_k».proof.Proof.Parts2
public import proofs.«01_k».proof.Proof.Chunks

@[expose] public section

set_option maxRecDepth 8192

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (K : Dev nD × CI → ℕ) (c : Dev nD)

/-- A sequence's run from its first program's run. -/
theorem seqd {α β : Type} {Q : β → sProp 𝕄} {p : Prog (TpuEff nD τ sig (Elt F) Λ₀ .tc) α} {k : α → Prog (TpuEff nD τ sig (Elt F) Λ₀ .tc) β} :
    WP c p (fun x => WP c (k x) Q) ⊢ WP c (p >>= k) Q := by
  unfold WP; rw [wp_bind]

/-- The eight heads, one by one. -/
def eight (P : Fin 8 → sProp 𝕄) : sProp 𝕄 := iprop(P 0 ∗ P 1 ∗ P 2 ∗ P 3 ∗ P 4 ∗ P 5 ∗ P 6 ∗ P 7)
/-- The three slots, one by one. -/
def three (P : Fin 3 → sProp 𝕄) : sProp 𝕄 := iprop(P 0 ∗ P 1 ∗ P 2)

/-- The duties that device `c` pays. -/
def payToks : sProp 𝕄 :=
  iprop(dutyTok ER (barC (prv c)) 0 true ∗ dutyTok ER (barC (nxt c)) 0 false
    ∗ three (fun j => dutyTok ER (sndC c j) 0 false) ∗ three (fun j => dutyTok ER (rcvC (nxt c) j) 0 false)
    ∗ three (fun j => dutyTok ER (gsC c j) 0 false)
    ∗ dutyTok ER (grC (nxt c) 0) 0 false ∗ dutyTok ER (grC (prv c) 1) 0 false ∗ dutyTok ER (grC (opp c) 2) 0 false)
/-- Where device `c` stands at its own cells. -/
def stands : sProp 𝕄 :=
  iprop(atPos ER (barC c) 0 ∅ 0 ∗ three (fun j => atPos ER (sndC c j) 0 ∅ 0) ∗ three (fun j => atPos ER (rcvC c j) 0 ∅ 0)
    ∗ three (fun j => atPos ER (gsC c j) 0 ∅ 0) ∗ three (fun j => atPos ER (grC c j) 0 ∅ 0))
/-- What is owed to device `c` at the launch. -/
def creds₀ : sProp 𝕄 :=
  iprop(cred (tallyAt (barC c) () 2) ∗ three (fun j => cred (tallyAt (rcvC c j) () NR)) ∗ three (fun j => cred (tallyAt (grC c j) () NG)))
/-- The kernel's own buffers, at any contents. -/
def scratch : sProp 𝕄 :=
  iprop((∃ f, wqbPts c f) ∗ (∃ f, wobPts c f) ∗ (∃ f, kbM.view.loc (c : Thread nD τ) ↦{fullShare} f) ∗ (∃ f, vbM.view.loc (c : Thread nD τ) ↦{fullShare} f)
    ∗ three (fun j => iprop(∃ f, sndPts c j f)) ∗ three (fun j => iprop(∃ f, rcvPts c j f)) ∗ (∃ f, agAll c f) ∗ three (fun j => iprop(∃ f, agrPts c j f)))
/-- The counters of the device's cells, back at zero. -/
def zeros : sProp 𝕄 :=
  iprop(semVal (barC c) 0 ∗ three (fun j => semVal (sndC c j) 0) ∗ three (fun j => semVal (rcvC c j) 0)
    ∗ three (fun j => semVal (gsC c j) 0) ∗ three (fun j => semVal (grC c j) 0))

theorem beside0 (f : Vec F S3x128x1024 .bf16) : agrPts (prv c) 2 f ⊢ beside c 0 := by
  unfold beside; rw [if_pos (show (0 : Fin 3).val = 0 from rfl)]; iintro H; iexists f; iexact H
theorem besideN (j : Fin 3) (h : j.val ≠ 0) : (iprop(emp) : sProp 𝕄) ⊢ beside c j := by
  unfold beside; rw [if_neg h]
theorem opp0 : (if (0 : Fin 3).val = 0 then iprop(∃ f, agrPts (F := F) (opp c) 2 f) else iprop(emp) : sProp 𝕄) ⊢ iprop(∃ f, agrPts (opp c) 2 f) := by
  rw [if_pos (show (0 : Fin 3).val = 0 from rfl)]

/-- The second block, as the program prints it, is what goes on to the right next. -/
theorem step1 : k0_pay50 (k0_pay49 (k0_pay37 (rowsOf (A.x c) (blk c 0)) (A.wqb c)) (k0_pay38 (rowsOf (A.x c) (blk c 0)) (A.wqb c) (A.kH c 0) (A.vH c 0))
      (k0_pay40 (k0_pay39 (rowsOf (A.x c) (blk c 0)) (A.wqb c) (A.kH c 1)) (A.vH c 1)) (k0_pay41 (k0_pay37 (rowsOf (A.x c) (blk c 0)) (A.wqb c)) (A.kH c 2) (A.vH c 2))
      (k0_pay43 (k0_pay42 (k0_pay37 (rowsOf (A.x c) (blk c 0)) (A.wqb c)) (A.kH c 3) (A.vH c 3))) (k0_pay44 (k0_pay37 (rowsOf (A.x c) (blk c 0)) (A.wqb c)) (A.kH c 4) (A.vH c 4))
      (k0_pay45 (k0_pay37 (rowsOf (A.x c) (blk c 0)) (A.wqb c)) (A.kH c 5) (A.vH c 5)) (k0_pay47 (k0_pay37 (rowsOf (A.x c) (blk c 0)) (A.wqb c)) (A.kH c 6))
      (k0_pay48 (k0_pay37 (rowsOf (A.x c) (blk c 0)) (A.wqb c)) (A.kH c 6)) (A.vH c 6) (A.kH c 7) (A.vH c 7) (A.wob c)) (A.acc 0 (prv c)) = A.acc 1 c := by
  rw [chunk1]; rfl
/-- The third block. -/
theorem step2 : k0_pay65 (k0_pay64 (k0_pay51 (rowsOf (A.x c) (blk c 1)) (A.wqb c)) (k0_pay54 (k0_pay52 (rowsOf (A.x c) (blk c 1)) (A.wqb c)) (k0_pay53 (A.kH c 0)) (constant S128x2048 .f32 0x00000000#32) (A.vH c 0))
      (k0_pay55 (k0_pay51 (rowsOf (A.x c) (blk c 1)) (A.wqb c)) (A.kH c 1) (A.vH c 1)) (k0_pay59 (k0_pay57 (k0_pay51 (rowsOf (A.x c) (blk c 1)) (A.wqb c)) (A.kH c 2) (A.vH c 2)) (k0_pay58 (k0_pay51 (rowsOf (A.x c) (blk c 1)) (A.wqb c)) (A.kH c 2)))
      (k0_pay60 (k0_pay51 (rowsOf (A.x c) (blk c 1)) (A.wqb c)) (A.kH c 3) (A.vH c 3)) (k0_pay61 (k0_pay51 (rowsOf (A.x c) (blk c 1)) (A.wqb c)) (A.kH c 4) (A.vH c 4)) (k0_pay62 (k0_pay51 (rowsOf (A.x c) (blk c 1)) (A.wqb c)) (A.kH c 5))
      (k0_pay63 (k0_pay51 (rowsOf (A.x c) (blk c 1)) (A.wqb c)) (A.kH c 5)) (A.vH c 5) (A.kH c 6) (A.vH c 6) (A.kH c 7) (A.vH c 7)) (A.wob c) (A.acc 1 (prv c)) = A.acc 2 c := by
  rw [chunk2]; rfl
/-- The fourth block, with which the sum ends. -/
theorem step3 : k0_pay80 (k0_pay67 (rowsOf (A.x c) (blk c 2)) (A.wqb c) (A.kH c 0) (A.vH c 0)) (k0_pay71 (k0_pay69 (rowsOf (A.x c) (blk c 2)) (A.wqb c) (A.kH c 1)) (k0_pay70 (rowsOf (A.x c) (blk c 2)) (A.wqb c) (A.kH c 1) (A.vH c 1))) (k0_pay72 (k0_pay66 (rowsOf (A.x c) (blk c 2)) (A.wqb c)) (A.kH c 2) (A.vH c 2))
      (k0_pay73 (k0_pay66 (rowsOf (A.x c) (blk c 2)) (A.wqb c)) (A.kH c 3) (A.vH c 3)) (k0_pay76 (k0_pay74 (k0_pay66 (rowsOf (A.x c) (blk c 2)) (A.wqb c)) (A.kH c 4)) (k0_pay75 (k0_pay66 (rowsOf (A.x c) (blk c 2)) (A.wqb c)) (A.kH c 4)) (A.vH c 4))
      (k0_pay77 (k0_pay66 (rowsOf (A.x c) (blk c 2)) (A.wqb c)) (A.kH c 5) (A.vH c 5)) (k0_pay78 (k0_pay66 (rowsOf (A.x c) (blk c 2)) (A.wqb c)) (A.kH c 6) (A.vH c 6)) (k0_pay79 (k0_pay66 (rowsOf (A.x c) (blk c 2)) (A.wqb c))) (A.kH c 7) (A.vH c 7) (A.wob c) (A.acc 2 (prv c)) = A.fin c := by
  rw [chunk3]
  have e : blk c 2 = nxt c := Fin.ext (by show (c.val + 3 - 2) % 4 = (c.val + 1) % 4; omega)
  rw [e]; rfl

/-- Everything the body's run ends with, but for what is owed. -/
def ends : sProp 𝕄 :=
  iprop(xPts c (A.x c) ∗ wqPts c (A.wq c) ∗ woPts c (A.wo c) ∗ outPts c (A.out c) ∗ eight (kDone A c) ∗ eight (vDone A c) ∗ scratch c ∗ zeros c)

set_option pp.maxSteps 200 in
set_option maxHeartbeats 4000000 in
/-- The body's run: the arguments as they were, the result, and every counter at zero. -/
theorem body_run {Φ : PUnit → sProp 𝕄} {fo : Vec F S512x1024 .f32} :
    known A K ⊢ iprop(xPts c (A.x c) -∗ wqPts c (A.wq c) -∗ woPts c (A.wo c) -∗ outPts c fo -∗ eight (kIdle A c) -∗ eight (vIdle A c) -∗ scratch c
      -∗ payToks c -∗ stands c -∗ creds₀ c -∗ owe c (O₀ c) -∗ (ends A c -∗ owe c 0 -∗ Φ ⟨⟩) -∗ WP c (ap (cc0_body (F := F))) Φ) := by
  simp only [ap, cc0_body_eq_skeleton]
  unfold cc0_body_skel
  simp only [k0_part34_eq_skeleton]
  unfold k0_part34_skel scratch payToks stands creds₀ eight three
  iintro #HK Hx Hwq Hwo Hout ⟨HKi0, HKi1, HKi2, HKi3, HKi4, HKi5, HKi6, HKi7⟩ ⟨HVi0, HVi1, HVi2, HVi3, HVi4, HVi5, HVi6, HVi7⟩ ⟨⟨%fwq, Hwqb⟩, ⟨%fwo, Hwob⟩, ⟨%fkb, Hkb⟩, ⟨%fvb, Hvb⟩, ⟨⟨%fs0, Hs0⟩, ⟨%fs1, Hs1⟩, ⟨%fs2, Hs2⟩⟩, ⟨⟨%fr0, Hr0⟩, ⟨%fr1, Hr1⟩, ⟨%fr2, Hr2⟩⟩, ⟨%fag, Hag⟩, ⟨%fg0, Hg0⟩, ⟨%fg1, Hg1⟩, ⟨%fg2, Hg2⟩⟩ ⟨HtbP, HtbN, ⟨Hts0, Hts1, Hts2⟩, ⟨Htr0, Htr1, Htr2⟩, ⟨Htgs0, Htgs1, Htgs2⟩, Htg0, Htg1, Htg2⟩ ⟨HaB, ⟨Has0, Has1, Has2⟩, ⟨Har0, Har1, Har2⟩, ⟨Hags0, Hags1, Hags2⟩, Hagr0, Hagr1, Hagr2⟩ ⟨HcB, ⟨Hcr0, Hcr1, Hcr2⟩, Hcg0, Hcg1, Hcg2⟩ HO HΦ
  ihave Hkb := (show (kbM.view.loc (c : Thread nD τ) ↦{fullShare} fkb : sProp 𝕄) ⊢ kbPts A c 0 from by unfold kbPts; iintro H; iexists fkb; rw [fill_zero]; iexact H) $$ Hkb
  ihave Hvb := (show (vbM.view.loc (c : Thread nD τ) ↦{fullShare} fvb : sProp 𝕄) ⊢ vbPts A c 0 from by unfold vbPts; iintro H; iexists fvb; rw [fill_zero]; iexact H) $$ Hvb
  iapply (seqd c)
  iapply (seqd c)
  iapply (part1 A c) $$ HKi0 HVi0; iintro HKi0 HVi0 %v2 %v5 %v7 %v9
  iapply (seqd c)
  iapply (part2 A c v2) $$ HKi1 HVi1 HKi2; iintro HKi1 HVi1 HKi2
  iapply (seqd c)
  iapply (part3 A c v2) $$ HVi2 HKi3 HVi3 HKi4; iintro HVi2 HKi3 HVi3 HKi4
  iapply (seqd c)
  iapply (part4 A c v2) $$ HVi4 HKi5 HVi5; iintro HVi4 HKi5 HVi5
  iapply (seqd c)
  iapply (part5 A K c v2 v5) $$ HK HKi6 HVi6 HKi7 HVi7 HO HtbP Hr0 Hr1 Hr2 Hg0; iintro HKi6 HVi6 HKi7 HVi7 HO
  iapply (seqd c)
  iapply (part6 A K c v2 v7 _ rfl) $$ HK HO HtbN Hg1 Hg2 HcB HaB Hwq Hwo Hwqb Hwob Hx; iintro HO HL HR HzB Hwq Hwo Hwqb Hwob Hx
  iapply (seqd c)
  iapply (part7 A K c _) $$ HK HO HKi0 HVi0 Hkb Hvb; iintro HO HKi0 HVi0 Hkb Hvb
  iapply (seqd c)
  iapply (part8 A K c _ _) $$ HK HO HKi1 HVi1 Hkb Hvb; iintro HO HKi1 HVi1 Hkb Hvb
  iapply (seqd c)
  iapply (part9 A K c _ _ rfl) $$ HK HO HKi2 Hkb Hvb; iintro HO HKi2 Hkb Hvb
  iapply (seqd c)
  iapply (part10 A K c _) $$ HK HO HVi2 Hkb Hvb; iintro HO HVi2 Hkb Hvb
  iapply (seqd c)
  iapply (part11 A K c _) $$ HK HO HKi3 HVi3 Hkb Hvb; iintro HO HKi3 HVi3 Hkb Hvb
  iapply (seqd c)
  iapply (part12 A K c _ _) $$ HK HO HKi4 HVi4 Hkb Hvb; iintro HO HKi4 HVi4 Hkb Hvb
  iapply (seqd c)
  iapply (part13 A K c _ _ rfl) $$ HK HO HKi5 Hkb Hvb; iintro HO HKi5 Hkb Hvb
  iapply (seqd c)
  iapply (part14 A K c _) $$ HK HO HVi5 Hkb Hvb; iintro HO HVi5 Hkb Hvb
  iapply (seqd c)
  iapply (part15 A K c _) $$ HK HO HKi6 HVi6 Hkb Hvb; iintro HO HKi6 HVi6 Hkb Hvb
  iapply (seqd c)
  iapply (part16 A K c _) $$ HK HO HKi7 HVi7 Hkb Hvb; iintro HO HKi7 HVi7 Hkb Hvb
  iapply (seqd c)
  iapply (part17 A c v7 _ _ _ _ _ _ _ _ (chunk0 (A.q c c) (A.kH c) (A.vH c) (A.wob c))) $$ HVi7 Hkb Hvb Hwob Hs0; iintro HVi7 Hkb Hvb Hwob Hs0
  unfold barPayL barPayR
  icases HL with ⟨⟨%gp1, Hgp1⟩, ⟨%gp2, Hgp2⟩⟩
  icases HR with ⟨⟨%rn0, Hrn0⟩, ⟨%rn1, Hrn1⟩, ⟨%rn2, Hrn2⟩, ⟨%gn0, Hgn0⟩⟩
  ihave Hr := (show iprop(xPts c (A.x c) ∗ wqbPts c (A.wqb c) ∗ wobPts c (A.wob c) ∗ kbPts A c 8 ∗ vbPts A c 8) ⊢ ready A c from by unfold ready; iintro H; iexact H) $$ [Hx Hwqb Hwob Hkb Hvb]
  · isplitl [Hx]; · iexact Hx
    isplitl [Hwqb]; · iexact Hwqb
    isplitl [Hwob]; · iexact Hwob
    isplitl [Hkb] <;> iassumption
  ihave Hbs := (beside0 c gp2) $$ Hgp2
  iapply (seqd c)
  iapply (part18 A K c v2) $$ HK Hr Hs0 Hrn0 Hbs HO Hts0 Htr0; iintro Hr HO Hcs0
  iapply (seqd c)
  iapply (part19 A c _ _) $$ Hr; iintro Hr
  iapply (seqd c)
  iapply (part20 A c _ _) $$ Hr; iintro Hr
  iapply (seqd c)
  iapply (part21 A K c v7 _ _ _ _ _ _ _ _ _) $$ HK Hr Hcr0 Har0 HO; iintro Hr HO Hp0 Hzr0
  unfold rcvPay
  icases Hp0 with ⟨Hr0, Hgo⟩
  ihave Hgo := (opp0 c) $$ Hgo
  icases Hgo with ⟨%go2, Hgo2⟩
  ihave Hb1 := (besideN (F := F) c 1 (by decide)) $$ []
  · iempintro
  ihave Hb2 := (besideN (F := F) c 2 (by decide)) $$ []
  · iempintro
  iapply (seqd c)
  iapply (part22 A K c v2 v7 _ (step1 A c)) $$ HK Hr Hr0 Hs1 Hrn1 Hb1 HO Hts1 Htr1; iintro Hr Hr0 HO Hcs1
  iapply (seqd c)
  iapply (part23 A c _ _ _ _) $$ Hr; iintro Hr
  iapply (seqd c)
  iapply (part24 A c _ _ _) $$ Hr; iintro Hr
  iapply (seqd c)
  iapply (part25 A c _ _ _ _ _ _ _ _) $$ Hr; iintro Hr
  iapply (seqd c)
  iapply (part26 A K c v2 v7 _ (step2 A c)) $$ HK Hr Hcr1 Har1 HO Hs2 Hrn2 Hb2 Hts2 Htr2; iintro Hr Hr1 Hzr1 HO Hcs2 %v772
  iapply (seqd c)
  iapply (part27 A c v772) $$ Hr; iintro Hr
  iapply (seqd c)
  iapply (part28 A c _ _ _) $$ Hr; iintro Hr
  iapply (seqd c)
  iapply (part29 A c _ _ _) $$ Hr; iintro Hr
  iapply (seqd c)
  iapply (part30 A K c v2 v7 _ _ _ _ _ _ _ _) $$ HK Hr Hcr2 Har2 HO; iintro Hr HO Hr2 Hzr2
  iapply (seqd c)
  iapply (part31 A K c v5 v7 v9 _ (step3 A c)) $$ HK Hout Hag HO Hgn0 Hgp1 Hgo2 Htgs0 Htg0 Htgs1 Htg1 Htgs2 Htg2; iintro Hout HO Hcgs0 Hcgs1 Hcgs2
  iapply (seqd c)
  iapply (part32 A K c v2 v5 v7) $$ HK Hout HO Hcg0 Hagr0 Hcg1 Hagr1; iintro Hout HO Hg0 Hzg0 Hg1 Hzg1
  iapply (seqd c)
  iapply (part33 A K c v2 v9) $$ HK Hout HO Hcg2 Hagr2 Hcs0 Has0 Hcs1 Has1; iintro Hout HO Hg2 Hzg2 Hs0 Hzs0 Hs1 Hzs1
  simp only [Prog.lift, Prog.bind_op, Prog.bind_ret, Prog.pure_eq_ret]
  iapply (wait_snd A K c 2) $$ HK Hcs2 Has2 HO; iintro ⟨HO, Hs2, Hzs2⟩
  iapply (wait_gs A K c 0) $$ HK Hcgs0 Hags0 HO; iintro ⟨HO, Hag0, Hzgs0⟩
  iapply (ended c _)
  iapply (wait_gs A K c 1) $$ HK Hcgs1 Hags1 HO; iintro ⟨HO, Hag1, Hzgs1⟩
  iapply (wait_gs A K c 2) $$ HK Hcgs2 Hags2 HO; iintro ⟨HO, Hag2, Hzgs2⟩
  iapply (ended c _)
  iapply HΦ $$ [- HO] HO
  unfold ends scratch zeros eight three ready kbPts vbPts
  icases Hr with ⟨Hx, Hwqb, Hwob, ⟨%fkb', Hkb⟩, ⟨%fvb', Hvb⟩⟩
  isplitl [Hx]; · iexact Hx
  isplitl [Hwq]; · iexact Hwq
  isplitl [Hwo]; · iexact Hwo
  isplitl [Hout]; · iapply (Entails.of_eq (congrArg (outPts c) (out_eq A c fo))); iexact Hout
  isplitl [HKi0 HKi1 HKi2 HKi3 HKi4 HKi5 HKi6 HKi7]
  · isplitl [HKi0]; · iexact HKi0
    isplitl [HKi1]; · iexact HKi1
    isplitl [HKi2]; · iexact HKi2
    isplitl [HKi3]; · iexact HKi3
    isplitl [HKi4]; · iexact HKi4
    isplitl [HKi5]; · iexact HKi5
    isplitl [HKi6]; · iexact HKi6
    iexact HKi7
  isplitl [HVi0 HVi1 HVi2 HVi3 HVi4 HVi5 HVi6 HVi7]
  · isplitl [HVi0]; · iexact HVi0
    isplitl [HVi1]; · iexact HVi1
    isplitl [HVi2]; · iexact HVi2
    isplitl [HVi3]; · iexact HVi3
    isplitl [HVi4]; · iexact HVi4
    isplitl [HVi5]; · iexact HVi5
    isplitl [HVi6]; · iexact HVi6
    iexact HVi7
  isplitl [Hwqb Hwob Hkb Hvb Hs0 Hs1 Hs2 Hr0 Hr1 Hr2 Hag0 Hag1 Hag2 Hg0 Hg1 Hg2]
  · isplitl [Hwqb]; · iexists _; iexact Hwqb
    isplitl [Hwob]; · iexists _; iexact Hwob
    isplitl [Hkb]; · iexists _; iexact Hkb
    isplitl [Hvb]; · iexists _; iexact Hvb
    isplitl [Hs0 Hs1 Hs2]
    · isplitl [Hs0]; · iexists _; iexact Hs0
      isplitl [Hs1]; · iexists _; iexact Hs1
      iexists _; iexact Hs2
    isplitl [Hr0 Hr1 Hr2]
    · isplitl [Hr0]; · iexists _; iexact Hr0
      isplitl [Hr1]; · iexists _; iexact Hr1
      iexists _; iexact Hr2
    isplitl [Hag0 Hag1 Hag2]
    · iexists (A.ag c); iapply (Entails.of_eq (ag_shares c (A.ag c)).symm)
      isplitl [Hag0]; · iexact Hag0
      isplitl [Hag1] <;> iassumption
    isplitl [Hg0]; · iexists _; iexact Hg0
    isplitl [Hg1]; · iexists _; iexact Hg1
    iexists _; iexact Hg2
  isplitl [HzB]; · iexact HzB
  isplitl [Hzs0 Hzs1 Hzs2]
  · isplitl [Hzs0]; · iexact Hzs0
    isplitl [Hzs1]; · iexact Hzs1
    iexact Hzs2
  isplitl [Hzr0 Hzr1 Hzr2]
  · isplitl [Hzr0]; · iexact Hzr0
    isplitl [Hzr1]; · iexact Hzr1
    iexact Hzr2
  isplitl [Hzgs0 Hzgs1 Hzgs2]
  · isplitl [Hzgs0]; · iexact Hzgs0
    isplitl [Hzgs1]; · iexact Hzgs1
    iexact Hzgs2
  isplitl [Hzg0]; · iexact Hzg0
  isplitl [Hzg1]; · iexact Hzg1
  iexact Hzg2

end Cert.KernelIdeal.Ring
-- ==== Proof.Split.lean ====
/-
  The buffers cut into the pieces that the body works on, and put together again.
-/
module

public import proofs.«01_k».proof.Proof.Body
public import Idealize.ShloMosaic.Lib.Ring.FamCut

@[expose] public section

set_option maxRecDepth 8192

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem eight_eq (P : Fin 8 → sProp 𝕄) : eight P = bigSep Finset.univ P :=
  (bigSep_univ_eq_bigSepL [0, 1, 2, 3, 4, 5, 6, 7] (by decide) (by decide) P).symm
omit [FloatOps F] in
theorem three_eq (P : Fin 3 → sProp 𝕄) : three P = bigSep Finset.univ P :=
  (bigSep_univ_eq_bigSepL [0, 1, 2] (by decide) (by decide) P).symm

section Family
variable {ℓ : Loc nD τ sig}

omit [FloatOps F] in
/-- A buffer whose elements three pieces share out, cut into them; -/
theorem three_cut (I : Fin 3 → Finset (Idx ℓ)) (hd : ∀ b b', b ≠ b' → Disjoint (I b) (I b')) (hc : Finset.univ.biUnion I = Finset.univ) :
    (iprop(∃ f : Buf (Elt F) ℓ, ℓ ↦{fullShare} f) : sProp 𝕄) ⊢ three fun j => iprop(∃ f : Buf (Elt F) ℓ, ℓ ↦[I j]{fullShare} f) := by
  rw [three_eq]
  have e : ∀ f : Buf (Elt F) ℓ, (ℓ ↦{fullShare} f : sProp 𝕄) ⊢ bigSep Finset.univ fun j => iprop(∃ f : Buf (Elt F) ℓ, ℓ ↦[I j]{fullShare} f) := fun f =>
    (Entails.of_eq (Ring.pointsTo_blocks I hd hc f)).trans (bigSep_mono fun b _ => Ring.pointsTo_exists (I b) f)
  iintro ⟨%f, H⟩
  iapply (e f); iexact H
omit [FloatOps F] in
/-- and put together. -/
theorem three_join (I : Fin 3 → Finset (Idx ℓ)) (hd : ∀ b b', b ≠ b' → Disjoint (I b) (I b')) (hc : Finset.univ.biUnion I = Finset.univ) :
    (three fun j => iprop(∃ f : Buf (Elt F) ℓ, ℓ ↦[I j]{fullShare} f) : sProp 𝕄) ⊢ iprop(∃ f : Buf (Elt F) ℓ, ℓ ↦{fullShare} f) := by
  unfold three
  iintro ⟨⟨%f, H0⟩, H1, H2⟩
  iapply (Ring.pointsTo_blocks_join_exists I hd hc f)
  iapply (Entails.of_eq (three_eq fun j => iprop(∃ f : Buf (Elt F) ℓ, ℓ ↦[I j]{fullShare} f)))
  unfold three
  isplitl [H0]; · iexists f; iexact H0
  isplitl [H1] <;> iassumption

omit [FloatOps F] in
/-- A buffer of which eight pieces are cut out: the pieces and the rest, all at its contents. -/
theorem eight_cut (I : Fin 8 → Finset (Idx ℓ)) (hd : ∀ b b', b ≠ b' → Disjoint (I b) (I b')) (f : Buf (Elt F) ℓ) :
    (ℓ ↦{fullShare} f : sProp 𝕄) = iprop((eight fun h => ℓ ↦[I h]{fullShare} f) ∗ ℓ ↦[Ring.restOf I]{fullShare} f) := by
  rw [eight_eq, ← pointsTo_biUnion Finset.univ I (fun b _ b' _ h => hd b b' h)]
  exact BI.Entails.antisymm (pointsTo_split_subset (Finset.subset_univ _)).1 (pointsTo_split_subset (Finset.subset_univ _)).2
end Family

variable (A : Args F) (c : Dev nD)

/-! ## The three slots of the sums and of the gather -/

theorem slot_disj (b b' : Fin 3) (h : b ≠ b') : Disjoint (slotR b).set (slotR b').set :=
  Finset.disjoint_left.mpr fun i hi hi' => h (Fin.ext (((mem_slotR b i).mp hi).symm.trans ((mem_slotR b' i).mp hi')))
theorem slot_cover : Finset.univ.biUnion (fun j : Fin 3 => (slotR j).set) = Finset.univ :=
  Finset.eq_univ_of_forall fun i => Finset.mem_biUnion.mpr ⟨i 0, Finset.mem_univ _, (mem_slotR (i 0) i).mpr rfl⟩

omit [FloatOps F] in
theorem snd_eq : (three fun j => iprop(∃ f, sndPts (F := F) c j f) : sProp 𝕄)
    = three fun j => iprop(∃ f : Buf (Elt F) (sndM.view.loc (c : Thread nD τ)), sndM.view.loc (c : Thread nD τ) ↦[(slotR j).set]{fullShare} f) := by
  congr 1; funext j; unfold sndPts; rw [sndSl_set]; rfl
omit [FloatOps F] in
theorem rcv_eq : (three fun j => iprop(∃ f, rcvPts (F := F) c j f) : sProp 𝕄)
    = three fun j => iprop(∃ f : Buf (Elt F) (rcvM.view.loc (c : Thread nD τ)), rcvM.view.loc (c : Thread nD τ) ↦[(slotR j).set]{fullShare} f) := by
  congr 1; funext j; unfold rcvPts; rw [rcvSl_set]; rfl
omit [FloatOps F] in
theorem agr_eq : (three fun j => iprop(∃ f, agrPts (F := F) c j f) : sProp 𝕄)
    = three fun j => iprop(∃ f : Buf (Elt F) (agrM.view.loc (c : Thread nD τ)), agrM.view.loc (c : Thread nD τ) ↦[(slotR j).set]{fullShare} f) := by
  congr 1; funext j; unfold agrPts; rw [agrSl_set]; rfl

/-! ## The heads of the keys and of the values -/

theorem col_disj (b b' : Fin 8) (h : b ≠ b') : Disjoint (colR c b) (colR c b') :=
  Finset.disjoint_left.mpr fun i hi hi' => h (Fin.ext (by
    have h1 := (Finset.mem_filter.mp hi).2
    have h2 := (Finset.mem_filter.mp hi').2
    omega))

/-- The keys outside the device's eight heads. -/
def kRest : sProp 𝕄 := hkM.view.loc (c : Thread nD τ) ↦[Ring.restOf (ℓ := hkM.view.loc (c : Thread nD τ)) (colR c)]{fullShare} (A.k c : Buf (Elt F) (hkM.view.loc (c : Thread nD τ)))
/-- The values outside the device's eight heads. -/
def vRest : sProp 𝕄 := hvM.view.loc (c : Thread nD τ) ↦[Ring.restOf (ℓ := hvM.view.loc (c : Thread nD τ)) (colR c)]{fullShare} (A.v c : Buf (Elt F) (hvM.view.loc (c : Thread nD τ)))

theorem hk_cut : (hkM.view.loc (c : Thread nD τ) ↦{fullShare} (A.k c : Buf (Elt F) (hkM.view.loc (c : Thread nD τ))) : sProp 𝕄)
    = iprop(eight (hkPts A c) ∗ kRest A c) := by
  refine (eight_cut (ℓ := hkM.view.loc (c : Thread nD τ)) (colR c) (col_disj c) _).trans ?_
  unfold kRest
  congr 2; funext h; unfold hkPts; rw [hkSl_set]
theorem hv_cut : (hvM.view.loc (c : Thread nD τ) ↦{fullShare} (A.v c : Buf (Elt F) (hvM.view.loc (c : Thread nD τ))) : sProp 𝕄)
    = iprop(eight (hvPts A c) ∗ vRest A c) := by
  refine (eight_cut (ℓ := hvM.view.loc (c : Thread nD τ)) (colR c) (col_disj c) _).trans ?_
  unfold vRest
  congr 2; funext h; unfold hvPts; rw [hvSl_set]

/-! ## The staging of the keys and of the values -/

abbrev kvI (p : Fin 2 × Fin 8) : Finset S2x8x2048x128.Idx := (kvR p.1 p.2).set
theorem kv_disj (b b' : Fin 2 × Fin 8) (h : b ≠ b') : Disjoint (kvI b) (kvI b') :=
  Finset.disjoint_left.mpr fun i hi hi' => by
    obtain ⟨h1, h2⟩ := (mem_kvR b.1 b.2 i).mp hi
    obtain ⟨h3, h4⟩ := (mem_kvR b'.1 b'.2 i).mp hi'
    exact h (Prod.ext (Fin.ext (h1.symm.trans h3)) (Fin.ext (h2.symm.trans h4)))
theorem kv_cover : Finset.univ.biUnion kvI = Finset.univ :=
  Finset.eq_univ_of_forall fun i => Finset.mem_biUnion.mpr ⟨(i 0, i 1), Finset.mem_univ _, (mem_kvR (i 0) (i 1) i).mpr ⟨rfl, rfl⟩⟩

omit [FloatOps F] in
theorem kv_eq : (iprop((eight fun h => iprop(∃ f, kvPts (F := F) c 0 h f)) ∗ (eight fun h => iprop(∃ f, kvPts (F := F) c 1 h f))) : sProp 𝕄)
    = bigSep Finset.univ fun p => iprop(∃ f : Buf (Elt F) (kvM.view.loc (c : Thread nD τ)), kvM.view.loc (c : Thread nD τ) ↦[kvI p]{fullShare} f) := by
  rw [bigSep_univ_prod, eight_eq, eight_eq]
  refine Eq.trans ?_ (bigSep_fin_two _).symm
  have e (s : Fin 2) : (bigSep Finset.univ fun h => iprop(∃ f, kvPts (F := F) c s h f) : sProp 𝕄)
      = bigSep Finset.univ fun h => iprop(∃ f : Buf (Elt F) (kvM.view.loc (c : Thread nD τ)), kvM.view.loc (c : Thread nD τ) ↦[kvI (s, h)]{fullShare} f) :=
    bigSep_congr fun h _ => by unfold kvPts; rw [kvSl_set]; rfl
  rw [e, e]; rfl
omit [FloatOps F] in
theorem kv_cut : (iprop(∃ f : Buf (Elt F) (kvM.view.loc (c : Thread nD τ)), kvM.view.loc (c : Thread nD τ) ↦{fullShare} f) : sProp 𝕄)
    ⊢ iprop((eight fun h => iprop(∃ f, kvPts (F := F) c 0 h f)) ∗ (eight fun h => iprop(∃ f, kvPts (F := F) c 1 h f))) := by
  rw [kv_eq]
  have e : ∀ f : Buf (Elt F) (kvM.view.loc (c : Thread nD τ)), (kvM.view.loc (c : Thread nD τ) ↦{fullShare} f : sProp 𝕄)
      ⊢ bigSep Finset.univ fun p => iprop(∃ f : Buf (Elt F) (kvM.view.loc (c : Thread nD τ)), kvM.view.loc (c : Thread nD τ) ↦[kvI p]{fullShare} f) := fun f =>
    (Entails.of_eq (Ring.pointsTo_blocks (ℓ := kvM.view.loc (c : Thread nD τ)) kvI kv_disj kv_cover f)).trans
      (bigSep_mono fun b _ => Ring.pointsTo_exists (ℓ := kvM.view.loc (c : Thread nD τ)) (kvI b) f)
  iintro ⟨%f, H⟩
  iapply (e f); iexact H
/-- The pieces that the run leaves, put together. -/
theorem kv_join : iprop((eight fun h => kvPts c 0 h (A.kv c)) ∗ (eight fun h => kvPts c 1 h (A.kv c)))
    ⊢ (iprop(∃ f : Buf (Elt F) (kvM.view.loc (c : Thread nD τ)), kvM.view.loc (c : Thread nD τ) ↦{fullShare} f) : sProp 𝕄) := by
  refine BIBase.Entails.trans ?_ (Ring.pointsTo_blocks_join_exists (ℓ := kvM.view.loc (c : Thread nD τ)) kvI kv_disj kv_cover (A.kv c))
  rw [← kv_eq, eight_eq, eight_eq, eight_eq, eight_eq]
  have e₁ (s : Fin 2) (h : Fin 8) : kvPts c s h (A.kv c) ⊢ iprop(∃ f, kvPts (F := F) c s h f) := by iintro H; iexists _; iexact H
  have e (s : Fin 2) : (bigSep Finset.univ fun h => kvPts c s h (A.kv c) : sProp 𝕄) ⊢ bigSep Finset.univ fun h => iprop(∃ f, kvPts (F := F) c s h f) :=
    bigSep_mono fun h _ => e₁ s h
  iintro ⟨H0, H1⟩
  isplitl [H0]
  · iapply (e 0); iexact H0
  · iapply (e 1); iexact H1

/-! ## The heads before and after -/

/-- The counters of the local copies' semaphores. -/
def kvZeros : sProp 𝕄 :=
  iprop((eight fun h => semVal ((c : Thread nD τ), .dma (kvS 0 h)) 0) ∗ eight fun h => semVal ((c : Thread nD τ), .dma (kvS 1 h)) 0)

omit [FloatOps F] in
theorem eight_sep (P Q R : Fin 8 → sProp 𝕄) : (eight fun h => iprop(P h ∗ Q h ∗ R h)) = iprop(eight P ∗ eight Q ∗ eight R) := by
  rw [eight_eq, eight_eq, eight_eq, eight_eq, bigSep_sep', bigSep_sep']

theorem idle_eq : iprop(eight (kIdle A c) ∗ eight (vIdle A c))
    = iprop((eight (hkPts A c) ∗ (eight fun h => iprop(∃ f, kvPts (F := F) c 0 h f)) ∗ eight fun h => semVal ((c : Thread nD τ), .dma (kvS 0 h)) 0)
      ∗ (eight (hvPts A c) ∗ (eight fun h => iprop(∃ f, kvPts (F := F) c 1 h f)) ∗ eight fun h => semVal ((c : Thread nD τ), .dma (kvS 1 h)) 0)) := by
  rw [← eight_sep, ← eight_sep]; rfl
theorem done_eq : iprop(eight (kDone A c) ∗ eight (vDone A c))
    = iprop((eight (hkPts A c) ∗ (eight fun h => kvPts c 0 h (A.kv c)) ∗ eight fun h => semVal ((c : Thread nD τ), .dma (kvS 0 h)) 0)
      ∗ (eight (hvPts A c) ∗ (eight fun h => kvPts c 1 h (A.kv c)) ∗ eight fun h => semVal ((c : Thread nD τ), .dma (kvS 1 h)) 0)) := by
  rw [← eight_sep, ← eight_sep]; rfl

/-- The keys and the values whole. -/
def kvArrays : sProp 𝕄 :=
  iprop((hkM.view.loc (c : Thread nD τ) ↦{fullShare} (A.k c : Buf (Elt F) (hkM.view.loc (c : Thread nD τ))))
    ∗ hvM.view.loc (c : Thread nD τ) ↦{fullShare} (A.v c : Buf (Elt F) (hvM.view.loc (c : Thread nD τ))))

theorem idle_intro : iprop(kvArrays A c ∗ (∃ f : Buf (Elt F) (kvM.view.loc (c : Thread nD τ)), kvM.view.loc (c : Thread nD τ) ↦{fullShare} f) ∗ kvZeros c)
    ⊢ iprop((eight (kIdle A c) ∗ eight (vIdle A c)) ∗ kRest A c ∗ vRest A c) := by
  rw [idle_eq]; unfold kvArrays kvZeros; rw [hk_cut, hv_cut]
  iintro ⟨⟨⟨Hk, Hkr⟩, Hv, Hvr⟩, Hs, Hz0, Hz1⟩
  ihave H := (kv_cut c) $$ Hs
  icases H with ⟨H0, H1⟩
  isplitr [Hkr Hvr]
  · isplitl [Hk H0 Hz0]
    · isplitl [Hk]; · iexact Hk
      isplitl [H0] <;> iassumption
    · isplitl [Hv]; · iexact Hv
      isplitl [H1] <;> iassumption
  isplitl [Hkr] <;> iassumption
theorem done_elim : iprop((eight (kDone A c) ∗ eight (vDone A c)) ∗ kRest A c ∗ vRest A c)
    ⊢ iprop(kvArrays A c ∗ (∃ f : Buf (Elt F) (kvM.view.loc (c : Thread nD τ)), kvM.view.loc (c : Thread nD τ) ↦{fullShare} f) ∗ kvZeros c) := by
  rw [done_eq]; unfold kvArrays kvZeros; rw [hk_cut, hv_cut]
  iintro ⟨⟨⟨Hk, H0, Hz0⟩, Hv, H1, Hz1⟩, Hkr, Hvr⟩
  ihave H := (kv_join A c) $$ [H0 H1]
  · isplitl [H0] <;> iassumption
  isplitl [Hk Hkr Hv Hvr]
  · isplitl [Hk Hkr]
    · isplitl [Hk] <;> iassumption
    · isplitl [Hv] <;> iassumption
  isplitl [H]; · iexact H
  isplitl [Hz0] <;> iassumption

/-! ## The kernel's own buffers -/

/-- The kernel's own buffers but the staging of the keys and of the values, each whole. -/
def wholes : sProp 𝕄 :=
  iprop((∃ f, wqbPts (F := F) c f) ∗ (∃ f, wobPts (F := F) c f)
    ∗ (∃ f : Buf (Elt F) (kbM.view.loc (c : Thread nD τ)), kbM.view.loc (c : Thread nD τ) ↦{fullShare} f)
    ∗ (∃ f : Buf (Elt F) (vbM.view.loc (c : Thread nD τ)), vbM.view.loc (c : Thread nD τ) ↦{fullShare} f)
    ∗ (∃ f : Buf (Elt F) (sndM.view.loc (c : Thread nD τ)), sndM.view.loc (c : Thread nD τ) ↦{fullShare} f)
    ∗ (∃ f : Buf (Elt F) (rcvM.view.loc (c : Thread nD τ)), rcvM.view.loc (c : Thread nD τ) ↦{fullShare} f)
    ∗ (∃ f, agAll (F := F) c f) ∗ ∃ f : Buf (Elt F) (agrM.view.loc (c : Thread nD τ)), agrM.view.loc (c : Thread nD τ) ↦{fullShare} f)

theorem scratch_intro : wholes (F := F) c ⊢ scratch c := by
  unfold wholes scratch; rw [snd_eq, rcv_eq, agr_eq]
  iintro ⟨H1, H2, H3, H4, H5, H6, H7, H8⟩
  isplitl [H1]; · iexact H1
  isplitl [H2]; · iexact H2
  isplitl [H3]; · iexact H3
  isplitl [H4]; · iexact H4
  isplitl [H5]; · iapply (three_cut (ℓ := sndM.view.loc (c : Thread nD τ)) (fun j => (slotR j).set) slot_disj slot_cover); iexact H5
  isplitl [H6]; · iapply (three_cut (ℓ := rcvM.view.loc (c : Thread nD τ)) (fun j => (slotR j).set) slot_disj slot_cover); iexact H6
  isplitl [H7]; · iexact H7
  iapply (three_cut (ℓ := agrM.view.loc (c : Thread nD τ)) (fun j => (slotR j).set) slot_disj slot_cover); iexact H8
theorem scratch_elim : scratch (F := F) c ⊢ wholes c := by
  unfold wholes scratch; rw [snd_eq, rcv_eq, agr_eq]
  iintro ⟨H1, H2, H3, H4, H5, H6, H7, H8⟩
  isplitl [H1]; · iexact H1
  isplitl [H2]; · iexact H2
  isplitl [H3]; · iexact H3
  isplitl [H4]; · iexact H4
  isplitl [H5]; · iapply (three_join (ℓ := sndM.view.loc (c : Thread nD τ)) (fun j => (slotR j).set) slot_disj slot_cover); iexact H5
  isplitl [H6]; · iapply (three_join (ℓ := rcvM.view.loc (c : Thread nD τ)) (fun j => (slotR j).set) slot_disj slot_cover); iexact H6
  isplitl [H7]; · iexact H7
  iapply (three_join (ℓ := agrM.view.loc (c : Thread nD τ)) (fun j => (slotR j).set) slot_disj slot_cover); iexact H8

end Cert.KernelIdeal.Ring
-- ==== Proof.Ghost.lean ====
/-
  The launch: the ghost state of the protocol, dealt to the devices, and what each is owed.
-/
module

public import proofs.«01_k».proof.Proof.Split

@[expose] public section

set_option maxRecDepth 8192

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (c : Dev nD)

/-! ## The devices around the ring -/

/-- One device to the right. -/
def ringE : Dev nD ≃ Dev nD := ⟨nxt, prv, prv_nxt, nxt_prv⟩
/-- The device opposite. -/
def oppE : Dev nD ≃ Dev nD := ⟨opp, opp, opp_opp, opp_opp⟩

/-! ## The kernel's own semaphores -/

/-- The kernel's own semaphores: of the local copies, and of the transfers. -/
abbrev osem : (Fin 2 × Fin 8) ⊕ (Fin 4 × Fin 3) → SemLoc sig
  | .inl p => .dma (kvS p.1 p.2)
  | .inr p => csem (some p)

theorem ownSemFacts : Pipeline.OwnSemFacts cfg0.spec osem := by decide

theorem csem_injective : Function.Injective csem := by decide
theorem kcell_injective : Function.Injective kcell := by
  rintro ⟨c, k⟩ ⟨c', k'⟩ h
  have h1 : c = c' := congrArg (fun g : GSem nD τ sig => g.1.1) h
  subst h1
  exact Prod.ext rfl (csem_injective (congrArg Prod.snd h))

omit [FloatOps F] in
theorem bigSep_option {I : Type} [Fintype I] (Φ : Option I → sProp 𝕄) :
    bigSep Finset.univ Φ = iprop(Φ none ∗ bigSep Finset.univ fun i => Φ (some i)) := by
  rw [bigSep_univ_equiv (Equiv.optionEquivSumPUnit.{0, 0} I).symm, bigSep_univ_sum, bigSep_univ_of_subsingleton (i := PUnit.unit)]
  exact BI.sep_comm.antisymm BI.sep_comm
omit [FloatOps F] in
theorem bigSep_four (Φ : Fin 4 × Fin 3 → sProp 𝕄) : bigSep Finset.univ Φ
    = iprop(three (fun j => Φ (0, j)) ∗ three (fun j => Φ (1, j)) ∗ three (fun j => Φ (2, j)) ∗ three (fun j => Φ (3, j))) := by
  rw [bigSep_univ_prod, three_eq, three_eq, three_eq, three_eq]
  exact bigSep_univ_eq_bigSepL [0, 1, 2, 3] (by decide) (by decide) _
omit [FloatOps F] in
/-- A family over the protocol's cells, listed. -/
theorem bigSep_ci (Φ : CI → sProp 𝕄) : bigSep Finset.univ Φ
    = iprop(Φ none ∗ three (fun j => Φ (some (0, j))) ∗ three (fun j => Φ (some (1, j))) ∗ three (fun j => Φ (some (2, j))) ∗ three (fun j => Φ (some (3, j)))) := by
  rw [bigSep_option, bigSep_four]

omit [FloatOps F] in
theorem kvZeros_eq : kvZeros (F := F) c = bigSep Finset.univ fun p : Fin 2 × Fin 8 => semVal ((c : Thread nD τ), .dma (kvS p.1 p.2)) 0 := by
  rw [bigSep_univ_prod, bigSep_fin_two]
  unfold kvZeros; rw [eight_eq, eight_eq]; rfl
omit [FloatOps F] in
theorem ownSems0_eq : (Pipeline.ownSems0 (Ix := Unit) (Name := ℕ) (U := UU) (Lvl := ℕ) (Val := Elt F) (τ := τ) osem c : sProp 𝕄)
    = iprop(kvZeros c ∗ bigSep Finset.univ fun p : Fin 4 × Fin 3 => semVal (kcell (c, some p)) 0) := by
  unfold Pipeline.ownSems0; rw [bigSep_univ_sum, kvZeros_eq]; rfl
omit [FloatOps F] in
theorem unscopedSems0_eq : (unscopedSems0 c : sProp 𝕄) = semVal (barC c) 0 := by
  unfold unscopedSems0; rw [bigSep_eq_bigSepL_of_eq [SemLoc.reg barS] (by decide) (by decide)]; rfl
omit [FloatOps F] in
/-- The semaphores at the launch and at the end: the local copies', and the cells of the protocol. -/
theorem sems0_eq : iprop(Pipeline.ownSems0 (Ix := Unit) (Name := ℕ) (U := UU) (Lvl := ℕ) (Val := Elt F) (τ := τ) osem c ∗ unscopedSems0 c)
    ⊢ (iprop(kvZeros c ∗ bigSep Finset.univ fun k : CI => semVal (kcell (c, k)) 0) : sProp 𝕄) := by
  rw [ownSems0_eq, unscopedSems0_eq, bigSep_option]
  iintro ⟨⟨Hk, HS⟩, HB⟩
  isplitl [Hk]; · iexact Hk
  isplitl [HB]; · iexact HB
  iexact HS
omit [FloatOps F] in
theorem zeros_elim : iprop(zeros (F := F) c ∗ kvZeros c)
    ⊢ (iprop(Pipeline.ownSems0 (Ix := Unit) (Name := ℕ) (U := UU) (Lvl := ℕ) (Val := Elt F) (τ := τ) osem c ∗ unscopedSems0 c) : sProp 𝕄) := by
  rw [ownSems0_eq, unscopedSems0_eq, bigSep_four]
  unfold zeros
  iintro ⟨⟨HB, H0, H1, H2, H3⟩, Hk⟩
  isplitr [HB]
  · isplitl [Hk]; · iexact Hk
    isplitl [H0]; · iexact H0
    isplitl [H1]; · iexact H1
    isplitl [H2]; · iexact H2
    iexact H3
  iexact HB

/-! ## The tokens -/

def ringCells : Finset (GSem nD τ sig) := Finset.univ.map ⟨kcell, kcell_injective⟩

/-- A duty of a device's cells: `none` the barrier's second, `some k` the first of cell `k`. -/
abbrev TI : Type := Option CI
def tokOf (p : Dev nD × TI) : GSem nD τ sig × ℕ × Bool := match p.2 with
  | none => (barC p.1, 0, true)
  | some k => (kcell (p.1, k), 0, false)
theorem tokOf_injective : Function.Injective tokOf := by
  rintro ⟨c, t⟩ ⟨c', t'⟩ h
  cases t <;> cases t'
  · exact Prod.ext (congrArg (fun x : GSem nD τ sig × ℕ × Bool => x.1.1.1) h) rfl
  · exact absurd (congrArg (fun x : GSem nD τ sig × ℕ × Bool => x.2.2) h) (show ¬ true = false by decide)
  · exact absurd (congrArg (fun x : GSem nD τ sig × ℕ × Bool => x.2.2) h) (show ¬ false = true by decide)
  · next k k' =>
    have e := kcell_injective (congrArg (fun x : GSem nD τ sig × ℕ × Bool => x.1) h : kcell (c, k) = kcell (c', k'))
    injection e with e1 e2
    subst e1 e2; rfl
def ringToks : Finset (GSem nD τ sig × ℕ × Bool) := Finset.univ.map ⟨tokOf, tokOf_injective⟩

/-- The duties of device `c`'s own cells. -/
def toks : sProp 𝕄 :=
  iprop(dutyTok ER (barC c) 0 true ∗ dutyTok ER (barC c) 0 false ∗ three (fun j => dutyTok ER (sndC c j) 0 false)
    ∗ three (fun j => dutyTok ER (rcvC c j) 0 false) ∗ three (fun j => dutyTok ER (gsC c j) 0 false)
    ∗ three (fun j => dutyTok ER (grC c j) 0 false))
omit [FloatOps F] in
theorem toks_eq : (bigSep Finset.univ fun t : TI => (dutyTok ER (tokOf (c, t)).1 (tokOf (c, t)).2.1 (tokOf (c, t)).2.2 : sProp 𝕄)) = toks c := by
  rw [bigSep_option, bigSep_ci]; rfl

omit [FloatOps F] in
/-- The duties dealt to the devices that pay them. -/
theorem toks_around : (bigSep Finset.univ fun c : Dev nD => (toks (F := F) c)) ⊢ bigSep Finset.univ fun c : Dev nD => payToks c := by
  unfold toks payToks three
  simp only [bigSep_sep']
  rw [bigSep_univ_equiv ringE.symm (fun c : Dev nD => (dutyTok ER (barC c) 0 true : sProp 𝕄)),
    bigSep_univ_equiv ringE (fun c : Dev nD => (dutyTok ER (barC c) 0 false : sProp 𝕄)),
    bigSep_univ_equiv ringE (fun c : Dev nD => (dutyTok ER (rcvC c 0) 0 false : sProp 𝕄)),
    bigSep_univ_equiv ringE (fun c : Dev nD => (dutyTok ER (rcvC c 1) 0 false : sProp 𝕄)),
    bigSep_univ_equiv ringE (fun c : Dev nD => (dutyTok ER (rcvC c 2) 0 false : sProp 𝕄)),
    bigSep_univ_equiv ringE (fun c : Dev nD => (dutyTok ER (grC c 0) 0 false : sProp 𝕄)),
    bigSep_univ_equiv ringE.symm (fun c : Dev nD => (dutyTok ER (grC c 1) 0 false : sProp 𝕄)),
    bigSep_univ_equiv oppE (fun c : Dev nD => (dutyTok ER (grC c 2) 0 false : sProp 𝕄))]
  iintro H; iexact H

/-! ## The ghost state -/

def u₀ : UU :=
  (initOf (Pipeline.cells cfgs cellOf_inj) (Pipeline.launchToks cfgs cellOf_inj), (initOf ringCells ringToks, 1))

/-- What the launch deals device `c`. -/
def G : sProp 𝕄 :=
  iprop((bigSep Finset.univ fun k : CI => roundState ER (Rd A) (kcell (c, k)) 0)
    ∗ (bigSep Finset.univ fun k : CI => iprop(atPos ER (kcell (c, k)) 0 ∅ 0 ∗ reached ER (kcell (c, k)) 0)) ∗ toks c)

/-- The cells' invariants and that every cell is at its first round. -/
def records (K : Dev nD × CI → ℕ) : sProp 𝕄 :=
  iprop((bigSep Finset.univ fun p : Dev nD × CI => cellInv ER (Rd A) (K p) (kcell p))
    ∗ bigSep Finset.univ fun p : Dev nD × CI => reached ER (kcell p) 0)
instance records_persistent (K : Dev nD × CI → ℕ) : BI.Persistent (records A K) := by unfold records; infer_instance

/-- What device `c` starts from: the records, where it stands, the duties it pays, and the local copies' counters. -/
def G' : sProp 𝕄 := iprop((∃ K, records A K ∗ stands c ∗ payToks c) ∗ kvZeros c)

theorem fund_ring : BI.own (ER (initOf ringCells ringToks)) ⊢ (|==> bigSep Finset.univ (G A) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd A) ringCells ringToks) $$ HX with ⟨Hst, Hr, Hat, Htok⟩
  imodintro
  ihave Hst' := (Entails.of_eq (hX fun g => roundState ER (Rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k : CI => iprop(∃ κ : ℕ, cellInv ER (Rd A) κ (kcell (c, k))))
          ∗ (bigSep Finset.univ fun k : CI => iprop(atPos ER (kcell (c, k)) 0 ∅ 0 ∗ reached ER (kcell (c, k)) 0)) ∗ toks c ∗ kvZeros c) := by
  unfold G
  iintro ⟨Hos, Hus, Hst, Hat, Htok⟩
  ihave Hv := (sems0_eq (F := F) c) $$ [Hos Hus]
  · isplitl [Hos] <;> iassumption
  icases Hv with ⟨Hkv, Hv⟩
  imod (show iprop((bigSep Finset.univ fun k : CI => semVal (kcell (c, k)) 0) ∗ bigSep Finset.univ fun k : CI => roundState ER (Rd A) (kcell (c, k)) 0)
      ⊢ (|={Set.univ}=> bigSep Finset.univ fun k : CI => iprop(∃ κ : ℕ, cellInv ER (Rd A) κ (kcell (c, k))) : sProp 𝕄) from by
        rw [← bigSep_sep']
        exact (bigSep_mono fun k _ => (Rounds.body_intro ER (Rd A) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

omit [FloatOps F] in
theorem stands_eq : (bigSep Finset.univ fun k : CI => (atPos ER (kcell (c, k)) 0 ∅ 0 : sProp 𝕄)) = stands c := by
  rw [bigSep_ci]; rfl

theorem ghost_intro (K : Dev nD × CI → ℕ) : iprop(records A K ∗ stands c ∗ payToks c ∗ kvZeros c) ⊢ G' A c := by
  unfold G'
  iintro ⟨#HR, Hs, Ht, Hk⟩
  isplitr [Hk]
  · iexists K
    isplitr; · iexact HR
    isplitl [Hs] <;> iassumption
  iexact Hk

theorem deal (K : Dev nD × CI → ℕ) : iprop(records A K ∗ bigSep Finset.univ fun c : Dev nD => iprop(stands c ∗ payToks c ∗ kvZeros c)) ⊢ bigSep Finset.univ (G' A) :=
  (sep_mono_left (BI.bigSep_of_persistent Finset.univ (records A K))).trans (by
    rw [← bigSep_sep']; exact bigSep_mono fun c _ => ghost_intro A c K)

theorem regroup :
    (bigSep Finset.univ fun c : Dev nD => iprop((bigSep Finset.univ fun k : CI => iprop(∃ κ : ℕ, cellInv ER (Rd A) κ (kcell (c, k))))
          ∗ (bigSep Finset.univ fun k : CI => iprop(atPos ER (kcell (c, k)) 0 ∅ 0 ∗ reached ER (kcell (c, k)) 0)) ∗ toks c ∗ kvZeros c) : sProp 𝕄)
      ⊢ bigSep Finset.univ (G' A) := by
  rw [bigSep_sep', bigSep_sep', ← bigSep_univ_prod (fun p : Dev nD × CI => iprop(∃ κ : ℕ, cellInv ER (Rd A) κ (kcell p))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', bigSep_sep', ← bigSep_univ_prod (fun p : Dev nD × CI => (reached ER (kcell p) 0 : sProp 𝕄)),
    bigSep_congr (s := Finset.univ) (fun (c : Dev nD) _ => stands_eq (F := F) c)]
  iintro ⟨HI, ⟨Hat, #HR⟩, Htok, Hkv⟩
  ihave HK := (BI.bigSep_exists_pi Finset.univ (fun (p : Dev nD × CI) (κ : ℕ) => (cellInv ER (Rd A) κ (kcell p) : sProp 𝕄))) $$ HI
  icases HK with ⟨%K, #HI⟩
  ihave Htk := (toks_around (F := F)) $$ Htok
  iapply (deal A K)
  isplitr
  · unfold records; isplitl; · iexact HI
    iexact HR
  rw [bigSep_sep', bigSep_sep']
  isplitl [Hat]; · iexact Hat
  isplitl [Htk] <;> iassumption

/-- All devices' semaphores at once become the protocol's cells. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The launch credit -/

/-- What device `d` owes semaphore `s'` of device `c`, where it owes `n` to semaphore `s` of `e d`. -/
theorem tally_dev (e : Dev nD ≃ Dev nD) (d c : Dev nD) (s s' : SemLoc sig) (n : ℕ) :
    (tallyAt (((e d : Dev nD) : Thread nD τ), s) () n : CellTallies nD τ sig Unit) ((c : Thread nD τ), s') () = if d = e.symm c then (if s' = s then n else 0) else 0 := by
  rw [tallyAt_apply]
  by_cases h : d = e.symm c
  · subst h
    rw [if_pos rfl, Equiv.apply_symm_apply]
    by_cases hs : s' = s
    · rw [hs, if_pos ⟨rfl, rfl⟩, if_pos rfl]
    · rw [if_neg (fun h => hs (congrArg Prod.snd h.1)), if_neg hs]
  · rw [if_neg h, if_neg fun h' => h (by rw [Equiv.eq_symm_apply]; exact (congrArg (fun g : GSem nD τ sig => g.1.1) h'.1).symm)]
theorem sum_dev (e : Dev nD ≃ Dev nD) (c : Dev nD) (n : ℕ) : (∑ d : Dev nD, if d = e.symm c then n else 0) = n := by
  rw [Finset.sum_ite_eq' Finset.univ (e.symm c) fun _ => n, if_pos (Finset.mem_univ _)]

/-- What all devices together owe semaphore `s` of one device. -/
def owedTo (s : SemLoc sig) : ℕ :=
  (if s = .dma (grS 2) then NG else 0) + (if s = .dma (grS 1) then NG else 0) + (if s = .dma (grS 0) then NG else 0)
    + (if s = .dma (rcvS 2) then NR else 0) + (if s = .dma (rcvS 1) then NR else 0) + (if s = .dma (rcvS 0) then NR else 0)
    + (if s = .reg barS then 1 else 0) + (if s = .reg barS then 1 else 0)

theorem launch_credit (s : SemLoc sig) :
    tallyOn ((c : Thread nD τ), s) (launchCredit (Pipeline.owing O₀) 0 ((c : Thread nD τ), s)) = (tallyAt ((c : Thread nD τ), s) () (owedTo s) : CellTallies nD τ sig Unit) := by
  unfold tallyAt; refine congrArg _ (Finsupp.ext fun u => ?_); cases u
  have e (d : Dev nD) : O₀ d ((c : Thread nD τ), s) () = (if d = oppE.symm c then (if s = .dma (grS 2) then NG else 0) else 0)
      + (if d = ringE.symm.symm c then (if s = .dma (grS 1) then NG else 0) else 0) + (if d = ringE.symm c then (if s = .dma (grS 0) then NG else 0) else 0)
      + (if d = ringE.symm c then (if s = .dma (rcvS 2) then NR else 0) else 0) + (if d = ringE.symm c then (if s = .dma (rcvS 1) then NR else 0) else 0)
      + (if d = ringE.symm c then (if s = .dma (rcvS 0) then NR else 0) else 0) + (if d = ringE.symm c then (if s = .reg barS then 1 else 0) else 0)
      + (if d = ringE.symm.symm c then (if s = .reg barS then 1 else 0) else 0) := by
    unfold O₀ P7 P6 P5 P4 P3 P2 P1
    simp only [Pi.add_apply, Finsupp.add_apply]
    rw [← tally_dev oppE, ← tally_dev ringE.symm, ← tally_dev ringE, ← tally_dev ringE, ← tally_dev ringE, ← tally_dev ringE, ← tally_dev ringE, ← tally_dev ringE.symm]
    rfl
  rw [Pipeline.launchCredit_owing, Finsupp.single_eq_same, Finset.sum_congr rfl fun d _ => e d]
  simp only [Finset.sum_add_distrib, sum_dev]
  rfl

theorem owedTo_bar : owedTo (.reg barS) = 2 := by
  unfold owedTo; simp only [reduceCtorEq, if_false, if_true]
theorem owedTo_rcv (j : Fin 3) : owedTo (.dma (rcvS j)) = NR := by
  have h (k : Fin 3) : SemLoc.dma (rcvS j) ≠ .dma (grS k) := fun h => by
    have := congrArg role h; rw [role_rcv, role_gr] at this; cases this
  have e (k : Fin 3) : (SemLoc.dma (rcvS j) = .dma (rcvS k)) = (j = k) := by
    refine propext ⟨fun h => ?_, fun h => by rw [h]⟩
    have := congrArg role h; rw [role_rcv, role_rcv] at this; cases this; rfl
  unfold owedTo
  rw [if_neg (h 2), if_neg (h 1), if_neg (h 0)]
  simp only [e, reduceCtorEq, if_false]
  fin_cases j <;> simp
theorem owedTo_gr (j : Fin 3) : owedTo (.dma (grS j)) = NG := by
  have h (k : Fin 3) : SemLoc.dma (grS j) ≠ .dma (rcvS k) := fun h => by
    have := congrArg role h; rw [role_rcv, role_gr] at this; cases this
  have e (k : Fin 3) : (SemLoc.dma (grS j) = .dma (grS k)) = (j = k) := by
    refine propext ⟨fun h => ?_, fun h => by rw [h]⟩
    have := congrArg role h; rw [role_gr, role_gr] at this; cases this; rfl
  unfold owedTo
  rw [if_neg (h 2), if_neg (h 1), if_neg (h 0)]
  simp only [e, reduceCtorEq, if_false]
  fin_cases j <;> simp

omit [FloatOps F] in
theorem creds : (Pipeline.launchCred O₀ c : sProp 𝕄) ⊢ creds₀ c := by
  unfold Pipeline.launchCred
  rw [show (fun s : SemLoc sig => (cred (tallyOn ((c.tc : Thread nD τ), s) (launchCredit (Pipeline.owing O₀) 0 ((c.tc : Thread nD τ), s))) : sProp 𝕄))
    = fun s => cred (tallyAt ((c : Thread nD τ), s) () (owedTo s)) from funext fun s => by rw [launch_credit]]
  refine BIBase.Entails.trans (bigSep_subset (Finset.subset_univ (Finset.univ.map ⟨csem, csem_injective⟩))) ?_
  rw [bigSep_map, bigSep_ci]
  simp only [Function.Embedding.coeFn_mk, csem, owedTo_bar, owedTo_rcv, owedTo_gr]
  unfold creds₀
  iintro ⟨H0, -, H1, -, H2⟩
  isplitl [H0]; · iexact H0
  isplitl [H1] <;> iassumption

end Cert.KernelIdeal.Ring
-- ==== Proof.Run.lean ====
/-
  The run of the whole program on four devices, for any float values.
-/
module

public import proofs.«01_k».proof.Proof.Ghost
public import Idealize.ShloMosaic.Lib.Pipeline.CollectiveSegs

@[expose] public section

set_option maxRecDepth 8192

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the launch. -/
def s₀ : MemSt nD τ sig (Elt F) := ⟨m, fun _ => 0, ρ⟩

/-- The arguments as the memory holds them. -/
def args : Args F where
  x c := m ((c : Thread nD τ).loc main_arg0)
  wq c := m ((c : Thread nD τ).loc main_arg1)
  wo c := m ((c : Thread nD τ).loc main_arg4)
  k c := m ((c : Thread nD τ).loc main_arg2)
  v c := m ((c : Thread nD τ).loc main_arg3)

/-! ## The body at the launch -/

/-- What device `c`'s body knows and may use. -/
def ghost (c : Dev nD) : sProp 𝕄 := iprop(∃ K, known (args m) K ∗ stands c ∗ payToks c)
/-- What device `c` has before the region. -/
def start (c : Dev nD) : sProp 𝕄 := iprop(ghost m c ∗ creds₀ c ∗ kvZeros c ∗ kvArrays (args m) c)
/-- What its body starts from, -/
def Φ₀ (c : Dev nD) : sProp 𝕄 :=
  iprop(ghost m c ∗ creds₀ c ∗ (eight (kIdle (args m) c) ∗ eight (vIdle (args m) c)) ∗ (kRest (args m) c ∗ vRest (args m) c) ∗ scratch c)
/-- and what it leaves. -/
def Φ₁ (c : Dev nD) : sProp 𝕄 :=
  iprop((eight (kDone (args m) c) ∗ eight (vDone (args m) c)) ∗ (kRest (args m) c ∗ vRest (args m) c) ∗ scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (args m).x c
    | ⟨1, _⟩ => (args m).wq c
    | ⟨2, _⟩ => (args m).wo c
    | ⟨3, _⟩ => (args m).out c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is given at its one point, -/
def bodyPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
/-- and what it gives back. -/
def bodyPost (c : Dev nD) : sProp 𝕄 :=
  iprop(Φ₁ m c ∗ (dats m ρ 0 c).owesAt () (t0_0 : Fin cfg0.N).succ
    ∗ stg c cc0_stg0_0 ((args m).x c) ∗ stg c cc0_stg1_0 ((args m).wq c) ∗ stg c cc0_stg2_0 ((args m).wo c) ∗ stg c cc0_stg3_0 ((args m).out c))

theorem before_x (c : Dev nD) (d) : (dats m ρ 0 c).before (0 : Fin 4) t0_0 d = (args m).x c := by
  unfold Dat.before; rw [if_pos (fetch0_0 t0_0)]
  show (win0_0.blk t0_0).view.read (Elt F) (m ((c : Thread nD τ).loc main_arg0)) = m ((c : Thread nD τ).loc main_arg0)
  have hz : (fun a => (win0_0.index t0_0) a * main_arg0.ty.shape.size a) = fun _ => 0 := funext fun a => by fin_cases a <;> decide
  exact Memref.read_access_unit_zero (Elt F) main_arg0 hz (fun a => by fin_cases a <;> decide) _
theorem before_wq (c : Dev nD) (d) : (dats m ρ 0 c).before (1 : Fin 4) t0_0 d = (args m).wq c := by
  unfold Dat.before; rw [if_pos (fetch0_1 t0_0)]
  show (win0_1.blk t0_0).view.read (Elt F) (m ((c : Thread nD τ).loc main_arg1)) = m ((c : Thread nD τ).loc main_arg1)
  have hz : (fun a => (win0_1.index t0_0) a * main_arg1.ty.shape.size a) = fun _ => 0 := funext fun a => by fin_cases a <;> decide
  exact Memref.read_access_unit_zero (Elt F) main_arg1 hz (fun a => by fin_cases a <;> decide) _
theorem before_wo (c : Dev nD) (d) : (dats m ρ 0 c).before (2 : Fin 4) t0_0 d = (args m).wo c := by
  unfold Dat.before; rw [if_pos (fetch0_2 t0_0)]
  show (win0_2.blk t0_0).view.read (Elt F) (m ((c : Thread nD τ).loc main_arg4)) = m ((c : Thread nD τ).loc main_arg4)
  have hz : (fun a => (win0_2.index t0_0) a * main_arg4.ty.shape.size a) = fun _ => 0 := funext fun a => by fin_cases a <;> decide
  exact Memref.read_access_unit_zero (Elt F) main_arg4 hz (fun a => by fin_cases a <;> decide) _

theorem bodyPre_run (c : Dev nD) : bodyPre m ρ c ⊢ WP c (ap (cc0_body (F := F))) (fun _ => bodyPost m ρ c) := by
  unfold bodyPre Φ₀ ghost
  iintro ⟨⟨⟨%K, #HK, Hst, Htk⟩, Hcr, ⟨Hki, Hvi⟩, Hrest, Hscr⟩, Ho, ⟨%d0, %g0, %hg0, Hx⟩, ⟨%d1, %g1, %hg1, Hwq⟩, ⟨%d2, %g2, %hg2, Hwo⟩, ⟨%d3, %g3, %hg3, Hout⟩⟩
  rw [before_x] at hg0; rw [before_wq] at hg1; rw [before_wo] at hg2
  subst hg0 hg1 hg2
  unfold Dat.owesAt Pipeline.owesWithin
  icases Ho with ⟨%W, %hW, HO⟩
  iapply (body_run (args m) K c (fo := g3)) $$ HK [Hx] [Hwq] [Hwo] [Hout] Hki Hvi Hscr Htk Hst Hcr [HO]
  · unfold xPts; iexact Hx
  · unfold wqPts; iexact Hwq
  · unfold woPts; iexact Hwo
  · unfold outPts; iexact Hout
  · unfold owe; iexists W; iexact HO
  unfold ends owe
  iintro ⟨Hx, Hwq, Hwo, Hout, Hkd, Hvd, Hscr, Hz⟩ ⟨%W', HO⟩
  unfold bodyPost Φ₁ Dat.owesAt Pipeline.owesWithin
  isplitl [Hkd Hvd Hrest Hscr Hz]
  · isplitl [Hkd Hvd]
    · isplitl [Hkd] <;> iassumption
    isplitl [Hrest]; · iexact Hrest
    isplitl [Hscr] <;> iassumption
  isplitl [HO]
  · iexists W'
    isplitr; · ipureintro; exact fun _ _ => Or.inl trivial
    iexact HO
  unfold xPts wqPts woPts outPts
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

/-- The body's obligation on device `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from bigSep_W0,
    show ∀ Φ : Fin cfg0.W → sProp 𝕄, bigSep Finset.univ Φ = iprop(Φ (0 : Fin 4) ∗ Φ (1 : Fin 4) ∗ Φ (2 : Fin 4) ∗ Φ (3 : Fin 4)) from bigSep_W0]
  simp only [owns_whole_eq]
  show bodyPre m ρ c ⊢ WP c (ap (cc0_body (F := F))) (fun _ => bodyPost m ρ c)
  exact bodyPre_run m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (args m) c)
      ⊢ |={Set.univ}=> iprop(start m c ∗ emp) := by
  rw [Pipeline.unscopedRestP_none]
  rw [show cfg0.spec = spec0 from rfl, unscopedRest0_eq]
  iintro ⟨⟨Hk, Hv⟩, #Hlev, Hcr, -, HG⟩
  ihave Hc := (creds (F := F) c) $$ Hcr
  unfold G'
  icases HG with ⟨⟨%K, #HR, Hs, Ht⟩, Hz⟩
  imodintro
  unfold start ghost
  isplitl
  · isplitl [Hs Ht]
    · iexists K
      isplitr
      · unfold known records
        icases HR with ⟨#H1, #H2⟩
        isplitr; · iexact H1
        isplitr <;> iassumption
      isplitl [Hs] <;> iassumption
    isplitl [Hc]; · iexact Hc
    isplitl [Hz]; · iexact Hz
    unfold kvArrays
    isplitl [Hk]; · iexact Hk
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀ start
  iintro ⟨⟨Hg, Hcr, Hz, Ha⟩, -, ⟨H0, H1, H2, H3, H4, H5, H6, H7, H8⟩⟩
  ihave Hi := (idle_intro (args m) c) $$ [Ha H4 Hz]
  · isplitl [Ha]; · iexact Ha
    isplitl [H4]; · iexact H4
    iexact Hz
  icases Hi with ⟨Hi, Hr⟩
  isplitl [Hg]; · iexact Hg
  isplitl [Hcr]; · iexact Hcr
  isplitl [Hi]; · iexact Hi
  isplitl [Hr]; · iexact Hr
  iapply (scratch_intro (F := F) c)
  unfold wholes wqbPts wobPts agAll
  isplitl [H0]; · iexact H0
  isplitl [H1]; · iexact H1
  isplitl [H2]; · iexact H2
  isplitl [H3]; · iexact H3
  isplitl [H5]; · iexact H5
  isplitl [H6]; · iexact H6
  isplitl [H7]; · iexact H7
  iexact H8

/-- What device `c` keeps at the end: its counter of the barrier at zero, the keys and the values. -/
def kept (c : Dev nD) : sProp 𝕄 := iprop(unscopedSems0 c ∗ kvArrays (args m) c)

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, show cfg0.spec = spec0 from rfl, scopedRest0_eq]
  unfold Φ₁
  iintro ⟨Hd, Hr, Hs, Hz⟩
  ihave H := (done_elim (args m) c) $$ [Hd Hr]
  · isplitl [Hd] <;> iassumption
  icases H with ⟨Ha, H4, Hkz⟩
  ihave Hzz := (zeros_elim (F := F) c) $$ [Hz Hkz]
  · isplitl [Hz] <;> iassumption
  icases Hzz with ⟨Hown, Hun⟩
  ihave Hw := (scratch_elim (F := F) c) $$ Hs
  unfold wholes wqbPts wobPts agAll kept
  icases Hw with ⟨H0, H1, H2, H3, H5, H6, H7, H8⟩
  isplitl [Hun Ha]
  · isplitl [Hun] <;> iassumption
  isplitl [Hown]; · iexact Hown
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem waits (c : Dev nD) : (levAts L lv : sProp 𝕄) ⊢ Pipeline.cellsWaits cfgs (dats m ρ) () 0 c :=
  Pipeline.cellsWaits_intro cfgs (dats m ρ) () 0 c fun w s t =>
    mayWait c _ 0 (by
      rcases t with ⟨_ | _, ht⟩
      · exact above_O₀ c
      · exact above_zero 0) (by fin_cases w <;> fin_cases s <;> decide)

/-! ## The run -/

/-- The arrays of the windows after the run. -/
def finalA (c : Dev nD) (w : Fin cfg0.W) : Buf (Elt F) ((cfg0.win w).arr.view.loc (c : Thread nD τ)) := (dats m ρ 0 c).arrAt w cfg0.N

/-- What the run ends with: the windows' arrays at their final contents, and the keys and the values as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

/-- What is read of device `c` at the end. -/
def QY (c : Dev nD) (s : MemSt nD τ sig (Elt F)) : Prop :=
  (s.mem ((c : Thread nD τ).loc main_arg2) = m ((c : Thread nD τ).loc main_arg2) ∧ s.mem ((c : Thread nD τ).loc main_arg3) = m ((c : Thread nD τ).loc main_arg3))
    ∧ ∀ sm : SemLoc sig, sm.isScoped .tc = false → s.sem ((c.tc : Thread nD τ), sm) = 0

theorem read_kept (c : Dev nD) (s' : Phys nD τ sig (Elt F)) :
    iprop(kept m c ∗ SI s') ⊢ |={Set.univ}=> iprop(⌜QY m c s'.mem⌝ ∗ SI s') := by
  unfold kept kvArrays
  iintro ⟨⟨Hu, Hk, Hv⟩, HSI⟩
  ihave %h2 := (SI_pointsTo_agree (st := s')) $$ [HSI Hk]
  · isplitl [HSI] <;> iassumption
  ihave %h3 := (SI_pointsTo_agree (st := s')) $$ [HSI Hv]
  · isplitl [HSI] <;> iassumption
  imod (Pipeline.unscopedSems0_read (X := unscopedSems0 c) (c := c) fupd_intro s') $$ [Hu HSI] with ⟨%h, HSI⟩
  · isplitl [Hu] <;> iassumption
  imodintro
  isplitr
  · ipureintro
    exact ⟨⟨funext fun i => h2 i (Finset.mem_univ _), funext fun i => h3 i (Finset.mem_univ _)⟩, h⟩
  iexact HSI

set_option maxRecDepth 8000 in
/-- On four devices, for any float values, from any memory with all counters at zero: every weakly fair execution ends without fault,
    with the windows' arrays at their final contents, the keys and the values unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (args m)) (G' := G' (args m)) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      have hf : BI.own (((Emb.inl : Emb UB (UB × Counters)).trans embR : Emb UB 𝕄) (initOf ringCells ringToks)) ⊢ (|==> bigSep Finset.univ (G (args m)) : sProp 𝕄) :=
        fund_ring (args m)
      imod hf $$ HX with HG
      imodintro
      isplitl [HP] <;> iassumption)
    (hglob := glob (args m))
    (hA := fun _ _ => rfl) (hpf := fun _ k => k.elim0)
    (X := start m) (Y := kept m) (Z := fun _ => iprop(emp))
    (hX := start_intro m ρ) (hin := phi0_intro m ρ) (hout := phi1_exit m ρ)
    (QY := QY m)
    (hY := fun c s' => by
      iintro ⟨Hu, -, HSI⟩
      iapply (read_kept m c s')
      isplitl [Hu] <;> iassumption)
    (hQ := fun _ h hs => ⟨fun c => ⟨fun w => (h c).1 w, (h c).2.2.1⟩, sem_eq_zero hs fun c => (h c).2.2.2⟩)

theorem finalA_x (c : Dev nD) : finalA m ρ c (0 : Fin 4) = m ((c : Thread nD τ).loc main_arg0) := (dats (F := F) m ρ 0 c).arrAt_in (0 : Fin 4) rfl _
theorem finalA_wq (c : Dev nD) : finalA m ρ c (1 : Fin 4) = m ((c : Thread nD τ).loc main_arg1) := (dats (F := F) m ρ 0 c).arrAt_in (1 : Fin 4) rfl _
theorem finalA_wo (c : Dev nD) : finalA m ρ c (2 : Fin 4) = m ((c : Thread nD τ).loc main_arg4) := (dats (F := F) m ρ 0 c).arrAt_in (2 : Fin 4) rfl _
/-- The result is what the body leaves in its buffer. -/
theorem finalA_out (c : Dev nD) : finalA m ρ c (3 : Fin 4) = (args m).out c := by
  have e : (win0_3.blk t0_0).view.read (Elt F) (finalA m ρ c (3 : Fin 4)) = (args m).out c := by
    unfold finalA
    rw [show cfg0.N = (t0_0 : Fin cfg0.N).val + 1 from rfl, (dats m ρ 0 c).arrAt_succ (3 : Fin 4) t0_0, if_pos (flush0_3 t0_0)]
    exact View.read_write_univ _ _
  rw [← e]
  exact (Memref.read_access_unit_zero (Elt F) main_v1 (funext fun a => by fin_cases a <;> decide) _ _).symm

/-- The run, read at the arguments and the result: on every device the result is `Args.out` and the arguments are unchanged. -/
theorem run_out : θ_run defs (onTc (τ := τ) (main (F := F))) (s₀ m ρ) (fun r => (∀ c : Dev nD,
      r.2.mem ((c : Thread nD τ).loc main_v1) = (args m).out c
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨((h.1 c).1 (3 : Fin 4)).trans (finalA_out m ρ c), ((h.1 c).1 (0 : Fin 4)).trans (finalA_x m ρ c),
    ((h.1 c).1 (1 : Fin 4)).trans (finalA_wq m ρ c), (h.1 c).2.1, (h.1 c).2.2, ((h.1 c).1 (2 : Fin 4)).trans (finalA_wo m ρ c)⟩, h.2⟩) (run_main m ρ)

end Cert.KernelIdeal.Ring
-- ==== Proof.Frames.lean ====
/-
  The frames of the two printings of the kernel: one run, at two kinds of float values.
-/
module

public import proofs.«01_k».proof.Proof.Run
public import proofs.«01_k».proof.Proof.Gen.Kernel
public import proofs.«01_k».proof.Proof.Gen.ReferenceIdeal.Run
public import proofs.«01_k».proof.Defs

@[expose] public section

noncomputable section

namespace Cert.Proof

open Idealize.ShloMosaic Idealize.SL.Sem

/-- The kernel over the extended reals ends without fault, leaves its arguments unchanged and every counter at zero. -/
theorem frame_ideal : Cert.quiescent_KernelIdeal := fun m ρ _ =>
  (θ_run Cert.KernelIdeal.defs _ _).mono (fun _ h => ⟨fun c => (h.1 c).2, h.2⟩) (Cert.KernelIdeal.Ring.run_out (F := Ideal) m ρ)

/-- The two printings have one text: the kernel's body … -/
theorem body_eq {F : FTy → Type} [FloatOps F] : Cert.Kernel.cc0_body (F := F) = Cert.KernelIdeal.cc0_body (F := F) := by rfl

/-- … the table that calls it … -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) =>
    dsimp only
    rw [body_eq]
  | ⟨n + 1, h⟩, _ => exact absurd h (Nat.not_lt.2 (Nat.le_add_left _ _))

/-- … and the table with the launch. -/
theorem defs_eq {F : FTy → Type} [FloatOps F] : Cert.Kernel.defs (F := F) = Cert.KernelIdeal.defs (F := F) :=
  congrArg (Idealize.ShloMosaic.Pipeline.defs (Cert.KernelIdeal.pcfgs (F := F))) defs₀_eq

/-- So does the kernel at machine floats: its text is the same. -/
theorem frame_kernel : Cert.quiescent_Kernel := fun m ρ _ => by
  rw [defs_eq]
  exact (θ_run Cert.KernelIdeal.defs _ _).mono (fun _ h => ⟨fun c => (h.1 c).2, h.2⟩) (Cert.KernelIdeal.Ring.run_out (F := Bits) m ρ)

/-- And so does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Math.lean ====
/-
  The mathematics of the value claim, on extended reals alone: sums of reals, the scale moved through a product,
  and a softmax with and without its row maximum.
-/
module

public import Idealize.ShloMosaic.PureOps.Ideal
public import Idealize.ShloMosaic.Lib.IdealHost

@[expose] public section

noncomputable section

namespace Cert.Attn

open Idealize.ShloMosaic
open scoped BigOperators

/-- A sum of reals, as an extended real, is the sum of its terms. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A finite nonnegative factor moves out of a sum of any extended reals. -/
theorem mul_sum_of_nonneg {ι : Type} (s : Finset ι) (f : ι → EReal) {c : EReal} (h0 : 0 ≤ c) (h1 : c ≠ ⊤) :
    ∑ i ∈ s, c * f i = c * ∑ i ∈ s, f i := by
  classical
  induction s using Finset.induction_on with
  | empty => simp
  | insert a s ha ih =>
    rw [Finset.sum_insert ha, Finset.sum_insert ha, ih, EReal.left_distrib_of_nonneg_of_ne_top h0 h1]

/-- The exponential of a difference of reals. -/
theorem exp_sub (s m : ℝ) : Ideal.exp ((s : EReal) - (m : EReal)) = ((Real.exp (-m) : ℝ) : EReal) * Ideal.exp (s : EReal) := by
  rw [← EReal.coe_sub]
  show ((Real.exp (s - m) : ℝ) : EReal) = ((Real.exp (-m) : ℝ) : EReal) * ((Real.exp s : ℝ) : EReal)
  rw [← EReal.coe_mul, ← Real.exp_add]
  congr 2; ring

/-- The mean of `v` weighted by the exponentials of real scores does not change when a real is taken from every score. -/
theorem softmax_shift {n : ℕ} (hn : 0 < n) (s : Fin n → ℝ) (m : ℝ) (v : Fin n → EReal) :
    Ideal.div (∑ j, v j * Ideal.exp ((s j : EReal) - (m : EReal))) (∑ j, Ideal.exp ((s j : EReal) - (m : EReal)))
      = Ideal.div (∑ j, Ideal.exp (s j : EReal) * v j) (∑ j, Ideal.exp (s j : EReal)) := by
  have hc : (0 : ℝ) < Real.exp (-m) := Real.exp_pos _
  have hc0 : (0 : EReal) ≤ ((Real.exp (-m) : ℝ) : EReal) := by exact_mod_cast hc.le
  have hcz : ((Real.exp (-m) : ℝ) : EReal) ≠ 0 := by exact_mod_cast hc.ne'
  have hL : (∑ j, Ideal.exp (s j : EReal)) = ((∑ j, Real.exp (s j) : ℝ) : EReal) := (coe_sum _ _).symm
  have hLp : (0 : ℝ) < ∑ j, Real.exp (s j) :=
    Finset.sum_pos (fun j _ => Real.exp_pos _) ⟨⟨0, hn⟩, Finset.mem_univ _⟩
  have hLz : (∑ j, Ideal.exp (s j : EReal)) ≠ 0 := by rw [hL]; exact_mod_cast hLp.ne'
  have h1 : (∑ j, v j * Ideal.exp ((s j : EReal) - (m : EReal)))
      = ((Real.exp (-m) : ℝ) : EReal) * ∑ j, Ideal.exp (s j : EReal) * v j := by
    rw [← mul_sum_of_nonneg _ _ hc0 (EReal.coe_ne_top _)]
    refine Finset.sum_congr rfl fun j _ => ?_
    rw [exp_sub, mul_comm (v j), mul_assoc]
  have h2 : (∑ j, Ideal.exp ((s j : EReal) - (m : EReal)))
      = ((Real.exp (-m) : ℝ) : EReal) * ∑ j, Ideal.exp (s j : EReal) := by
    rw [← mul_sum_of_nonneg _ _ hc0 (EReal.coe_ne_top _)]
    exact Finset.sum_congr rfl fun j _ => exp_sub _ _
  rw [h1, h2]
  unfold Ideal.div
  rw [if_neg hLz, if_neg (mul_ne_zero hcz hLz)]
  have h3 := EReal.mul_div_mul_cancel (a := ∑ j, Ideal.exp (s j : EReal) * v j) (b := ∑ j, Ideal.exp (s j : EReal))
    (EReal.coe_ne_bot (Real.exp (-m))) (EReal.coe_ne_top _) hcz
  rw [mul_comm, ← EReal.div_eq_inv_mul, mul_comm (Real.toEReal _), mul_comm (Real.toEReal _), h3, EReal.div_eq_inv_mul, mul_comm]

/-- An extended real that is neither infinity. -/
def Finite (a : EReal) : Prop := a ≠ ⊤ ∧ a ≠ ⊥

/-- Scaling the weights by `c` scales the scores of finite data by `c`. -/
theorem score_scale {T D : ℕ} (x : Fin T → EReal) (w : Fin T → Fin D → EReal) (k : Fin D → EReal) (c : EReal)
    (hx : ∀ t, Finite (x t)) (hw : ∀ t e, Finite (w t e)) (hk : ∀ e, Finite (k e)) (hc : Finite c) :
    ∑ e, (∑ t, x t * (w t e * c)) * k e = (∑ e, (∑ t, x t * w t e) * k e) * c := by
  unfold Finite at *
  lift x to Fin T → ℝ using hx
  lift w to Fin T → Fin D → ℝ using hw
  lift k to Fin D → ℝ using hk
  lift c to ℝ using hc
  simp only [← EReal.coe_mul, ← coe_sum]
  congr 1
  rw [Finset.sum_mul]
  refine Finset.sum_congr rfl fun e _ => ?_
  rw [Finset.sum_mul, Finset.sum_mul, Finset.sum_mul]
  refine Finset.sum_congr rfl fun t _ => ?_
  ring

/-- A score of finite data is finite. -/
theorem score_finite {T D : ℕ} (x : Fin T → EReal) (w : Fin T → Fin D → EReal) (k : Fin D → EReal) (c : EReal)
    (hx : ∀ t, Finite (x t)) (hw : ∀ t e, Finite (w t e)) (hk : ∀ e, Finite (k e)) (hc : Finite c) :
    Finite ((∑ e, (∑ t, x t * w t e) * k e) * c) := by
  unfold Finite at *
  lift x to Fin T → ℝ using hx
  lift w to Fin T → Fin D → ℝ using hw
  lift k to Fin D → ℝ using hk
  lift c to ℝ using hc
  simp only [← EReal.coe_mul, ← coe_sum]
  exact ⟨EReal.coe_ne_top _, EReal.coe_ne_bot _⟩

/-- The maximum of finitely many finite numbers, folded from minus infinity, is finite. -/
theorem fold_max_finite {n : ℕ} (hn : 0 < n) (s : Fin n → EReal) (hs : ∀ j, Finite (s j)) :
    Finite (Finset.univ.fold max ⊥ s) := by
  constructor
  · exact ((Finset.fold_max_lt _).2 ⟨bot_lt_top, fun j _ => lt_top_iff_ne_top.2 (hs j).1⟩).ne
  · exact ((Finset.lt_fold_max _).2 (.inr ⟨⟨0, hn⟩, Finset.mem_univ _, bot_lt_iff_ne_bot.2 (hs _).2⟩)).ne'

/-- The mean of the values weighted by the exponentials of finite scores is the one taken with the row maximum removed. -/
theorem softmax_max {n : ℕ} (hn : 0 < n) (s v : Fin n → EReal) (hs : ∀ j, Finite (s j)) :
    Ideal.div (∑ j, v j * Ideal.exp (s j - Finset.univ.fold max ⊥ s)) (∑ j, Ideal.exp (s j - Finset.univ.fold max ⊥ s))
      = Ideal.div (∑ j, Ideal.exp (s j) * v j) (∑ j, Ideal.exp (s j)) := by
  obtain ⟨h1, h2⟩ := fold_max_finite hn s hs
  generalize Finset.univ.fold max ⊥ s = m at h1 h2
  unfold Finite at hs
  lift s to Fin n → ℝ using hs
  lift m to ℝ using ⟨h1, h2⟩
  exact softmax_shift hn s m v

/-- The scale of the scores, a finite number. -/
theorem scale_finite : Finite (Ideal.ofBits .f32 0x3DB504F3#32) := by
  have h1 : ((0x3DB504F3#32).extractLsb' 23 8).toNat = 123 := by decide
  show Finite (Ideal.ieee 8 23 0x3DB504F3#32)
  unfold Ideal.ieee
  simp only [h1]
  rw [if_neg (by decide), if_neg (by decide)]
  exact ⟨EReal.coe_ne_top _, EReal.coe_ne_bot _⟩

/-- A sum over `a * b` positions, block by block. -/
theorem sum_blocks {M : Type} [AddCommMonoid M] (a b : ℕ) (f : Fin (a * b) → M) :
    ∑ κ, f κ = ∑ h : Fin a, ∑ d : Fin b, f ⟨b * h.val + d.val, by
      have h1 := h.isLt; have h2 := d.isLt
      calc b * h.val + d.val < b * h.val + b := by omega
        _ = b * (h.val + 1) := by ring
        _ ≤ b * a := Nat.mul_le_mul_left _ h1
        _ = a * b := Nat.mul_comm _ _⟩ := by
  rw [← Fintype.sum_prod_type', ← finProdFinEquiv.sum_comp]
  refine Finset.sum_congr rfl fun p _ => congrArg f (Fin.ext ?_)
  show p.2.val + b * p.1.val = b * p.1.val + p.2.val
  omega

/-- The initial value of the running maximum is the least extended real. -/
theorem init_bot : Ideal.ofBits .f32 0xFF800000#32 = ⊥ := by
  simp [Ideal.ofBits, Ideal.ieee]

end Cert.Attn

end
-- ==== Proof.KVal.lean ====
/-
  What one device of the kernel computes over the extended reals, element by element.
-/
module

public import proofs.«01_k».proof.Proof.Spec
public import proofs.«01_k».proof.Proof.Math
public import Idealize.ShloMosaic.Lib.Pointwise
public import Idealize.ShloMosaic.Lib.Pointwise.IndexBridge

@[expose] public section

set_option maxRecDepth 16384

noncomputable section

namespace Cert.KernelIdeal.Ring

open Cert.KernelIdeal Cert.KernelIdeal.Gen
open Idealize.ShloMosaic Idealize.ShloMosaic.TcCoe
open scoped BigOperators

/-- The cast query weights hold the scaled weights. -/
theorem scaled_apply (w : Vec Ideal S1024x1024 .f32) (t κ : Fin 1024) :
    k0_pay1 (F := Ideal) w (ix2 t κ) = w (ix2 t κ) * Ideal.ofBits .f32 0x3DB504F3#32 := by
  pointwise [k0_pay1]

/-- The cast output weights hold the weights. -/
theorem castWo_apply (w : Vec Ideal S1024x1024 .f32) (t κ : Fin 1024) :
    k0_pay2 (F := Ideal) w (ix2 t κ) = w (ix2 t κ) := by
  pointwise [k0_pay2]

/-- A query is a row of the activations times a column of the scaled weights. -/
theorem queries_apply (x : Vec Ideal S128x1024 .f32) (w : Vec Ideal S1024x1024 .bf16) (i : Fin 128) (κ : Fin 1024) :
    queries (F := Ideal) x w (ix2 i κ) = ∑ t : Fin 1024, x (ix2 i t) * w (ix2 t κ) := by
  pointwise [queries, k0_pay3]

/-- A cast head holds the staged head. -/
theorem castHead_apply (v : Vec Ideal S1x1x2048x128 .f32) (j : Fin 2048) (e : Fin 128) :
    castHead (F := Ideal) v (ix3 0 j e) = v (ix4 0 0 j e) := by
  pointwise [castHead, k0_pay4]

/-- One head's output: the values' mean weighted by the exponentials of the scores. -/
theorem headOf_apply (q : FVec Ideal S128x128 .bf16) (k v : Vec Ideal S1x2048x128 .bf16) (i d : Fin 128) :
    headOf (F := Ideal) q k v (ix2 i d)
      = Ideal.div (∑ j : Fin 2048, Ideal.exp (∑ e : Fin 128, q (ix2 i e) * k (ix3 0 j e)) * v (ix3 0 j d))
          (∑ j : Fin 2048, Ideal.exp (∑ e : Fin 128, q (ix2 i e) * k (ix3 0 j e))) := by
  pointwise [headOf]

/-- Column `128 h + e`, the column `e` of head `h`. -/
abbrev headCol (h : Fin 8) (e : Fin 128) : Fin 1024 := ⟨128 * h.val + e.val, by omega⟩

/-- Row `128 r + i`, the row `i` of block `r`. -/
abbrev rowIx (r : Fin 4) (i : Fin 128) : Fin 512 := ⟨128 * r.val + i.val, by omega⟩

/-- Head `8 c + h`, the head `h` of device `c`. -/
abbrev headIx (c : Dev nD) (h : Fin 8) : Fin 32 := ⟨8 * c.val + h.val, by have := c.isLt; unfold nD at this; omega⟩

/-- Eight blocks of 128 columns side by side: column `128 h + d` is column `d` of block `h`. -/
theorem concat8_apply (s0 s1 s2 s3 s4 s5 s6 s7 : FVec Ideal S128x128 .bf16) (i : Fin 128) (h : Fin 8) (d : Fin 128) :
    concatenate S128x1024 1 [⟨S128x128, s0⟩, ⟨S128x128, s1⟩, ⟨S128x128, s2⟩, ⟨S128x128, s3⟩, ⟨S128x128, s4⟩, ⟨S128x128, s5⟩, ⟨S128x128, s6⟩, ⟨S128x128, s7⟩]
        concatenates_S128x128_S128x128_S128x128_S128x128_S128x128_S128x128_S128x128_S128x128_S128x1024_d1 (ix2 i (headCol h d))
      = (![s0, s1, s2, s3, s4, s5, s6, s7] : Fin 8 → FVec Ideal S128x128 .bf16) h (ix2 i d) := by
  have hd := d.isLt
  pointwise
  obtain ⟨h, hh⟩ := h
  dsimp only
  interval_cases h
  all_goals
    repeat first
      | rw [dif_neg (by omega)]
      | rw [dif_pos (by omega)]
  · exact congrArg s0 (congrArg (ix2 i) (Fin.ext (by dsimp only; omega)))
  · exact congrArg s1 (congrArg (ix2 i) (Fin.ext (by dsimp only; omega)))
  · exact congrArg s2 (congrArg (ix2 i) (Fin.ext (by dsimp only; omega)))
  · exact congrArg s3 (congrArg (ix2 i) (Fin.ext (by dsimp only; omega)))
  · exact congrArg s4 (congrArg (ix2 i) (Fin.ext (by dsimp only; omega)))
  · exact congrArg s5 (congrArg (ix2 i) (Fin.ext (by dsimp only; omega)))
  · exact congrArg s6 (congrArg (ix2 i) (Fin.ext (by dsimp only; omega)))
  · exact congrArg s7 (congrArg (ix2 i) (Fin.ext (by dsimp only; omega)))

/-- The heads side by side: column `128 h + d` is column `d` of head `h`. -/
theorem headsOf_apply (q : FVec Ideal S128x1024 .bf16) (k v : Fin 8 → Vec Ideal S1x2048x128 .bf16) (i : Fin 128) (h : Fin 8) (d : Fin 128) :
    headsOf (F := Ideal) q k v (ix2 i (headCol h d))
      = Ideal.div (∑ j : Fin 2048, Ideal.exp (∑ e : Fin 128, q (ix2 i (headCol h e)) * k h (ix3 0 j e)) * v h (ix3 0 j d))
          (∑ j : Fin 2048, Ideal.exp (∑ e : Fin 128, q (ix2 i (headCol h e)) * k h (ix3 0 j e))) := by
  unfold headsOf
  rw [concat8_apply]
  have key : ∀ (h : Fin 8) (s : FVec Ideal S128x128 .bf16), (∀ e, s (ix2 i e) = q (ix2 i (headCol h e))) →
      headOf s (k h) (v h) (ix2 i d)
        = Ideal.div (∑ j : Fin 2048, Ideal.exp (∑ e : Fin 128, q (ix2 i (headCol h e)) * k h (ix3 0 j e)) * v h (ix3 0 j d))
          (∑ j : Fin 2048, Ideal.exp (∑ e : Fin 128, q (ix2 i (headCol h e)) * k h (ix3 0 j e))) := by
    intro h s hs
    rw [headOf_apply]
    simp only [hs]
  fin_cases h
  all_goals
    refine key _ _ fun e => congrArg q ?_
    funext a
    match a with
    | 0 => exact Fin.ext (by show 0 + i.val = i.val; omega)
    | 1 => exact Fin.ext (by rfl)

/-- A row of the heads' outputs times a column of the device's output weights. -/
theorem projOf_apply (q : FVec Ideal S128x1024 .bf16) (k v : Fin 8 → Vec Ideal S1x2048x128 .bf16) (wo : Vec Ideal S1024x1024 .bf16)
    (i : Fin 128) (n : Fin 1024) :
    projOf (F := Ideal) q k v wo (ix2 i n) = ∑ κ : Fin 1024, headsOf (F := Ideal) q k v (ix2 i κ) * wo (ix2 κ n) := by
  pointwise [projOf]

/-- A block of rows of the activations. -/
theorem rowsOf_apply (X : Vec Ideal S512x1024 .f32) (r : Fin 4) (i : Fin 128) (t : Fin 1024) :
    rowsOf (F := Ideal) X r (ix2 i t) = X (ix2 (rowIx r i) t) := by
  show X ((rowsR r).toLoadRect.idx (ix2 i t)) = _
  refine congrArg X (funext fun a => Fin.ext ?_)
  match a with
  | 0 => show 128 * r.val + 1 * i.val = 128 * r.val + i.val; omega
  | 1 => show 0 + 1 * t.val = t.val; omega

/-- A staged head of the keys. -/
theorem kvSlot_key (K V : Vec Ideal S2048x32x128 .f32) (c : Dev nD) (h : Fin 8) (j : Fin 2048) (d : Fin 128) :
    kvSlot (F := Ideal) K V c 0 h (ix4 0 0 j d) = K (ix3 j (headIx c h) d) := by
  have e : (kvR 0 h).toLoadRect.idx (ix4 0 0 j d) = ix4 0 h j d := by
    funext a; refine Fin.ext ?_
    match a with
    | 0 => rfl
    | 1 => show h.val + 1 * 0 = h.val; omega
    | 2 => show 0 + 1 * j.val = j.val; omega
    | 3 => show 0 + 1 * d.val = d.val; omega
  show kvAll K V c ((kvR 0 h).toLoadRect.idx (ix4 0 0 j d)) = _
  rw [e]
  rfl

/-- A staged head of the values. -/
theorem kvSlot_value (K V : Vec Ideal S2048x32x128 .f32) (c : Dev nD) (h : Fin 8) (j : Fin 2048) (d : Fin 128) :
    kvSlot (F := Ideal) K V c 1 h (ix4 0 0 j d) = V (ix3 j (headIx c h) d) := by
  have e : (kvR 1 h).toLoadRect.idx (ix4 0 0 j d) = ix4 1 h j d := by
    funext a; refine Fin.ext ?_
    match a with
    | 0 => rfl
    | 1 => show h.val + 1 * 0 = h.val; omega
    | 2 => show 0 + 1 * j.val = j.val; omega
    | 3 => show 0 + 1 * d.val = d.val; omega
  show kvAll K V c ((kvR 1 h).toLoadRect.idx (ix4 0 0 j d)) = _
  rw [e]
  rfl

/-- Row `128 r + i` of four blocks of rows is row `i` of block `r`. -/
theorem rows4_apply (f : Fin 4 → Vec Ideal S128x1024 .f32) (r : Fin 4) (i : Fin 128) (n : Fin 1024) :
    rows4 (F := Ideal) f (ix2 (rowIx r i) n) = f r (ix2 i n) := by
  have e1 : ∀ h, (⟨(128 * r.val + i.val) / 128, h⟩ : Fin 4) = r := fun _ => Fin.ext (by show (128 * r.val + i.val) / 128 = r.val; omega)
  have e2 : ∀ h, (⟨(128 * r.val + i.val) % 128, h⟩ : Fin 128) = i := fun _ => Fin.ext (by show (128 * r.val + i.val) % 128 = i.val; omega)
  show f ⟨(128 * r.val + i.val) / 128, _⟩ (ValueIdx.ix2 ⟨(128 * r.val + i.val) % 128, _⟩ n) = _
  refine congr (congrArg f (e1 _)) ((congrArg (fun z => ValueIdx.ix2 z n) (e2 _)).trans ?_)
  exact (ix2_eq_valueIdx _ _).symm

namespace Args
variable (A : Args Ideal)

/-- One step of the ring adds the device's part to what came from the left. -/
theorem acc_step (p : FVec Ideal S128x1024 .f32) (a : Vec Ideal S1x128x1024 .f32) (i : Fin 128) (n : Fin 1024) :
    k0_pay50 (F := Ideal) p a (ix3 0 i n) = a (ix3 0 i n) + p (ix2 i n) := by
  pointwise [k0_pay50]

/-- The block a device ends with is the sum of all devices' parts of it. -/
theorem fin_apply (r : Fin 4) (i : Fin 128) (n : Fin 1024) :
    A.fin (prv r) (ix2 i n) = ∑ c : Dev nD, A.part c r (ix2 i n) := by
  have h : A.fin (prv r) (ix2 i n)
      = A.part r r (ix2 i n) + A.part (nxt r) r (ix2 i n) + A.part (opp r) r (ix2 i n) + A.part (prv r) r (ix2 i n) := by
    fin_cases r
    all_goals pointwise [fin, acc, acc_step, prv, nxt, opp]
  rw [h]
  have e : (∑ c : Dev nD, A.part c r (ix2 i n))
      = A.part 0 r (ix2 i n) + A.part 1 r (ix2 i n) + A.part 2 r (ix2 i n) + A.part 3 r (ix2 i n) := Fin.sum_univ_four _
  rw [e]
  fin_cases r
  · rfl
  · show A.part 1 _ _ + A.part 2 _ _ + A.part 3 _ _ + A.part 0 _ _ = _
    ac_rfl
  · show A.part 2 _ _ + A.part 3 _ _ + A.part 0 _ _ + A.part 1 _ _ = _
    ac_rfl
  · show A.part 3 _ _ + A.part 0 _ _ + A.part 1 _ _ + A.part 2 _ _ = _
    ac_rfl

/-- Every row block of the result is the device's before it, whichever device reads it. -/
theorem out_apply (c : Dev nD) (r : Fin 4) (i : Fin 128) (n : Fin 1024) :
    A.out c (ix2 (rowIx r i) n) = A.fin (prv r) (ix2 i n) := by
  unfold out
  rw [rows4_apply]
  split
  · next h => rw [h, prv_nxt]
  · pointwise [wide, ag, k0_pay81]

/-- A device's part of a row, head by head. -/
theorem part_apply (c : Dev nD) (r : Fin 4) (i : Fin 128) (n : Fin 1024) :
    A.part c r (ix2 i n) = ∑ h : Fin 8, ∑ d : Fin 128,
      Ideal.div
        (∑ j : Fin 2048, Ideal.exp (∑ e : Fin 128, (∑ t : Fin 1024, A.x c (ix2 (rowIx r i) t)
            * (A.wq c (ix2 t (headCol h e)) * Ideal.ofBits .f32 0x3DB504F3#32)) * A.k c (ix3 j (headIx c h) e)) * A.v c (ix3 j (headIx c h) d))
        (∑ j : Fin 2048, Ideal.exp (∑ e : Fin 128, (∑ t : Fin 1024, A.x c (ix2 (rowIx r i) t)
            * (A.wq c (ix2 t (headCol h e)) * Ideal.ofBits .f32 0x3DB504F3#32)) * A.k c (ix3 j (headIx c h) e)))
      * A.wo c (ix2 (headCol h d) n) := by
  unfold part
  rw [projOf_apply]
  refine (Cert.Attn.sum_blocks 8 128 _).trans ?_
  refine Finset.sum_congr rfl fun h _ => Finset.sum_congr rfl fun d _ => ?_
  show (headsOf (F := Ideal) (A.q c r) (A.kH c) (A.vH c) (ix2 i (headCol h d)) : EReal) * (A.wob c (ix2 (headCol h d) n) : EReal) = _
  rw [headsOf_apply]
  simp only [q, kH, vH, wqb, wob, queries_apply, castHead_apply, kvSlot_key, kvSlot_value, rowsOf_apply, scaled_apply, castWo_apply]

end Args

end Cert.KernelIdeal.Ring

end
-- ==== Proof.RefVal.lean ====
/-
  What the reference computes over the extended reals, element by element.
-/
module

public import proofs.«01_k».proof.Proof.Gen.ReferenceIdeal.Run
public import proofs.«01_k».proof.Proof.Math
public import Idealize.ShloMosaic.Lib.Pointwise
public import Idealize.ShloMosaic.Lib.Pointwise.IndexBridge

@[expose] public section

set_option maxRecDepth 16384

noncomputable section

namespace Cert.ReferenceIdeal.Attn

open Cert.ReferenceIdeal Cert.ReferenceIdeal.Gen
open Idealize.ShloMosaic Idealize.ShloMosaic.TcCoe
open scoped BigOperators

/-- The scaled scores of every head. -/
def scores (x : FVec Ideal S512x1024 .f32) (wq : FVec Ideal S1024x4096 .f32) (k : FVec Ideal S2048x32x128 .f32) : FVec Ideal S32x512x2048 .f32 :=
  mulf (Host.dotGeneral dot_S512x32x128_S2048x32x128_S32x512x2048_2_2_0_0_1_1 none
      (shapeCast _ (Host.dotGeneral dot_S512x1024_S1024x4096_S512x4096_1_0_0_1_n_n none x wq) shapeCasts_S512x4096_S512x32x128) k)
    (broadcastInDim S32x512x2048 ![] bcast_S_S32x512x2048 (constant S_ .f32 0x3DB504F3#32))

/-- The exponentials of the scores less their row's maximum. -/
def weights (s : FVec Ideal S32x512x2048 .f32) : FVec Ideal S32x512x2048 .f32 :=
  Host.exp (subf s (broadcastInDim S32x512x2048 ![0, 1, 2] bcast_S32x512x1_S32x512x2048_0_1_2
    (broadcastInDim S32x512x1 ![0, 1] bcast_S32x512_S32x512x1_0_1
      (Host.reduce FloatOps.maximumf s (constant S_ .f32 0xFF800000#32) reducesTo_S32x512x2048_S32x512_d2 h_S_))))

/-- The values' mean under the weights, head by head. -/
def mean (p : FVec Ideal S32x512x2048 .f32) (v : FVec Ideal S2048x32x128 .f32) : FVec Ideal S512x32x128 .f32 :=
  Host.divf (transpose S512x32x128 [2, 0, 1] (Host.dotGeneral dot_S2048x32x128_S32x512x2048_S32x128x512_0_2_2_1_1_0 none v p)
      transposes_S32x128x512_S512x32x128_2_0_1)
    (broadcastInDim S512x32x128 ![0, 1, 2] bcast_S512x32x1_S512x32x128_0_1_2 (transpose S512x32x1 [1, 0, 2]
      (broadcastInDim S32x512x1 ![0, 1] bcast_S32x512_S32x512x1_0_1
        (Host.reduceAdd p (constant S_ .f32 0x00000000#32) reducesTo_S32x512x2048_S32x512_d2 h_S_)) transposes_S32x512x1_S512x32x1_1_0_2))

/-- The heads' outputs, projected. -/
def project (a : FVec Ideal S512x32x128 .f32) (wo : FVec Ideal S4096x1024 .f32) : FVec Ideal S512x1024 .f32 :=
  Host.dotGeneral dot_S512x4096_S4096x1024_S512x1024_1_0_0_1_n_n none (shapeCast _ a shapeCasts_S512x32x128_S512x4096) wo

/-- What the reference returns. -/
def out (x : FVec Ideal S512x1024 .f32) (wq : FVec Ideal S1024x4096 .f32) (k v : FVec Ideal S2048x32x128 .f32) (wo : FVec Ideal S4096x1024 .f32) :
    FVec Ideal S512x1024 .f32 := project (mean (weights (scores x wq k)) v) wo

/-- Column `128 h + e`, the column `e` of head `h`. -/
abbrev col (h : Fin 32) (e : Fin 128) : Fin 4096 := ⟨128 * h.val + e.val, by omega⟩

/-- A score, the sum over the head of query times key, scaled. -/
theorem scores_apply (x : FVec Ideal S512x1024 .f32) (wq : FVec Ideal S1024x4096 .f32) (k : FVec Ideal S2048x32x128 .f32)
    (h : Fin 32) (i : Fin 512) (j : Fin 2048) :
    scores x wq k (ix3 h i j)
      = (∑ e : Fin 128, (∑ t : Fin 1024, x (ix2 i t) * wq (ix2 t (col h e))) * k (ix3 j h e)) * Ideal.ofBits .f32 0x3DB504F3#32 := by
  pointwise [scores]
  simp only [col, Nat.mul_comm 128]

/-- A weight, the exponential of a score less the greatest score of its row. -/
theorem weights_apply (s : FVec Ideal S32x512x2048 .f32) (h : Fin 32) (i : Fin 512) (j : Fin 2048) :
    weights s (ix3 h i j) = Ideal.exp (s (ix3 h i j) - Finset.univ.fold max ⊥ fun j' : Fin 2048 => s (ix3 h i j')) := by
  rw [← Cert.Attn.init_bot]
  pointwise [weights]

/-- An output of a head, the weighted mean of the values. -/
theorem mean_apply (p : FVec Ideal S32x512x2048 .f32) (v : FVec Ideal S2048x32x128 .f32) (i : Fin 512) (h : Fin 32) (d : Fin 128) :
    mean p v (ix3 i h d) = Ideal.div (∑ j : Fin 2048, v (ix3 j h d) * p (ix3 h i j)) (∑ j : Fin 2048, p (ix3 h i j)) := by
  pointwise [mean]

/-- A result, the sum over the heads of their outputs times the output weights. -/
theorem project_apply (a : FVec Ideal S512x32x128 .f32) (wo : FVec Ideal S4096x1024 .f32) (i : Fin 512) (n : Fin 1024) :
    project a wo (ix2 i n) = ∑ h : Fin 32, ∑ d : Fin 128, a (ix3 i h d) * wo (ix2 (col h d) n) := by
  have e : project a wo (ix2 i n) = ∑ κ : Fin 4096, a (ix3 i ⟨κ.val / 128, by omega⟩ ⟨κ.val % 128, by omega⟩) * wo (ix2 κ n) := by
    pointwise [project]
  rw [e]
  refine (Cert.Attn.sum_blocks 32 128 _).trans ?_
  refine Finset.sum_congr rfl fun h _ => Finset.sum_congr rfl fun d _ => ?_
  have e1 : ∀ p, (⟨(128 * h.val + d.val) / 128, p⟩ : Fin 32) = h := fun _ => Fin.ext (by show (128 * h.val + d.val) / 128 = h.val; omega)
  have e2 : ∀ p, (⟨(128 * h.val + d.val) % 128, p⟩ : Fin 128) = d := fun _ => Fin.ext (by show (128 * h.val + d.val) % 128 = d.val; omega)
  exact congrArg₂ (fun z w => a (ix3 i z w) * wo (ix2 (col h d) n)) (e1 _) (e2 _)

/-- The reference's run, its result named. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.ReferenceIdeal.Attn

end
-- ==== Proof.Equal.lean ====
/-
  The kernel's result is the reference's: each device's part is the sum over its eight heads, and the four parts
  are the thirty-two heads.
-/
module

public import proofs.«01_k».proof.Proof.KVal
public import proofs.«01_k».proof.Proof.RefVal

@[expose] public section

set_option maxRecDepth 16384

noncomputable section

namespace Cert.Proof

open Idealize.ShloMosaic
open Cert.KernelIdeal (nD)
open Cert.KernelIdeal.Ring (Args headCol headIx rowIx nxt prv)
open Cert.ReferenceIdeal.Attn (scores weights mean project col scores_apply weights_apply mean_apply project_apply)
open Cert.Attn (Finite)
open scoped BigOperators

/-- A position of the device's block of the 4096 columns. -/
abbrev blockIx (c : Dev nD) (κ : Fin 1024) : Fin 4096 := ⟨1024 * c.val + κ.val, by have := c.isLt; unfold nD at this; omega⟩

/-- The head's column among all columns is the column among the device's. -/
theorem col_eq (c : Dev nD) (h : Fin 8) (e : Fin 128) : blockIx c (headCol h e) = col (headIx c h) e :=
  Fin.ext (by show 1024 * c.val + (128 * h.val + e.val) = 128 * (8 * c.val + h.val) + e.val; omega)

section
variable (x : FVec Ideal ⟨2, ![512, 1024]⟩ .f32) (wq : FVec Ideal ⟨2, ![1024, 4096]⟩ .f32) (k v : FVec Ideal ⟨3, ![2048, 32, 128]⟩ .f32)
  (wo : FVec Ideal ⟨2, ![4096, 1024]⟩ .f32)

/-- One head's output: with the scale in the weights and no maximum subtracted it is the reference's. -/
theorem head_eq (hx : ∀ i t, Finite (x (ix2 i t))) (hw : ∀ t κ, Finite (wq (ix2 t κ))) (hk : ∀ j h e, Finite (k (ix3 j h e)))
    (i : Fin 512) (h : Fin 32) (d : Fin 128) :
    Ideal.div
        (∑ j : Fin 2048, Ideal.exp (∑ e : Fin 128, (∑ t : Fin 1024, x (ix2 i t)
            * (wq (ix2 t (col h e)) * Ideal.ofBits .f32 0x3DB504F3#32)) * k (ix3 j h e)) * v (ix3 j h d))
        (∑ j : Fin 2048, Ideal.exp (∑ e : Fin 128, (∑ t : Fin 1024, x (ix2 i t)
            * (wq (ix2 t (col h e)) * Ideal.ofBits .f32 0x3DB504F3#32)) * k (ix3 j h e)))
      = mean (weights (scores x wq k)) v (ix3 i h d) := by
  rw [mean_apply]
  simp only [weights_apply]
  have hs : ∀ j : Fin 2048, Finite (scores x wq k (ix3 h i j)) := fun j => by
    rw [scores_apply]
    exact Cert.Attn.score_finite (fun t => x (ix2 i t)) (fun t e => wq (ix2 t (col h e))) (fun e => k (ix3 j h e)) _
      (fun t => hx i t) (fun t e => hw t _) (fun e => hk j h e) Cert.Attn.scale_finite
  rw [Cert.Attn.softmax_max (by decide) (fun j : Fin 2048 => scores x wq k (ix3 h i j)) (fun j => v (ix3 j h d)) hs]
  have e : ∀ j : Fin 2048, (∑ e : Fin 128, (∑ t : Fin 1024, x (ix2 i t)
      * (wq (ix2 t (col h e)) * Ideal.ofBits .f32 0x3DB504F3#32)) * k (ix3 j h e)) = scores x wq k (ix3 h i j) := fun j => by
    rw [scores_apply]
    exact Cert.Attn.score_scale (fun t => x (ix2 i t)) (fun t e => wq (ix2 t (col h e))) (fun e => k (ix3 j h e)) _
      (fun t => hx i t) (fun t e => hw t _) (fun e => hk j h e) Cert.Attn.scale_finite
  simp only [e]

/-- Every device's result is the reference's. -/
theorem out_eq (A : Args Ideal) (hx : ∀ i t, Finite (x (ix2 i t))) (hw : ∀ t κ, Finite (wq (ix2 t κ))) (hk : ∀ j h e, Finite (k (ix3 j h e)))
    (ax : ∀ c, A.x c = x) (aq : ∀ c t κ, A.wq c (ix2 t κ) = wq (ix2 t (blockIx c κ))) (ak : ∀ c, A.k c = k) (av : ∀ c, A.v c = v)
    (ao : ∀ c κ n, A.wo c (ix2 κ n) = wo (ix2 (blockIx c κ) n)) (c : Dev nD) :
    A.out c = Cert.ReferenceIdeal.Attn.out x wq k v wo := by
  have key : ∀ (r : Fin 4) (i : Fin 128) (n : Fin 1024),
      A.out c (ix2 (rowIx r i) n) = Cert.ReferenceIdeal.Attn.out x wq k v wo (ix2 (rowIx r i) n) := by
    intro r i n
    unfold Cert.ReferenceIdeal.Attn.out
    rw [Args.out_apply, Args.fin_apply, project_apply]
    refine Eq.trans ?_ (Cert.Attn.sum_blocks 4 8 _).symm
    refine Finset.sum_congr rfl fun c' _ => ?_
    rw [Args.part_apply]
    refine Finset.sum_congr rfl fun h _ => Finset.sum_congr rfl fun d _ => ?_
    simp only [ax, aq, ak, av, ao, col_eq]
    exact congrArg (· * wo (ix2 (col (headIx c' h) d) n)) (head_eq x wq k v hx hw hk (rowIx r i) (headIx c' h) d)
  funext idx
  obtain ⟨i, n, rfl⟩ : ∃ (i : Fin 512) (n : Fin 1024), idx = ix2 i n := ⟨_, _, eq_ix2 idx⟩
  have e : i = rowIx ⟨i.val / 128, by omega⟩ ⟨i.val % 128, by omega⟩ := Fin.ext (by show i.val = 128 * (i.val / 128) + i.val % 128; omega)
  rw [e]
  exact key _ _ _
end

end Cert.Proof

end
-- ==== Proof.Finite.lean ====
/-
  What the precondition says of the arguments: no element of the activations, the query weights or the keys is infinite.
-/
module

public import proofs.«01_k».proof.Defs
public import proofs.«01_k».proof.Proof.Math
public import Idealize.ShloMosaic.Lib.Pointwise
public import Idealize.ShloMosaic.Lib.Pointwise.IndexBridge

@[expose] public section

noncomputable section

namespace Cert.Proof

open Idealize.ShloMosaic
open Cert.Attn (Finite)

/-- The shapes that the precondition's operations take fit. -/
theorem preFacts : Cert.Pre_finite_KernelIdeal.Facts := ⟨by decide, by decide, by decide⟩

/-- The same for the reference's shapes. -/
theorem preFactsRef : Cert.Pre_finite_ReferenceIdeal.Facts := ⟨by decide, by decide, by decide⟩

/-- A magnitude below infinity is a real's. -/
theorem finite_of_abs_lt {a : Ideal .f32} (h : BitVec.ofBool (decide (FloatOps.absf a < Ideal.ofBits .f32 0x7F800000#32)) = 1#1) :
    Finite a := by
  have htop : Ideal.ofBits .f32 0x7F800000#32 = ⊤ := by simp [Ideal.ofBits, Ideal.ieee]
  rw [htop] at h
  have h' : max (a : EReal) (-a : EReal) < ⊤ := by
    by_contra hn
    have hd : decide ((FloatOps.absf a : Ideal .f32) < (⊤ : EReal)) = false := decide_eq_false hn
    rw [hd] at h
    exact absurd h (by decide)
  have h1 := (max_lt_iff.mp h').1
  have h2 := (max_lt_iff.mp h').2
  refine ⟨h1.ne, fun hb => ?_⟩
  rw [hb, EReal.neg_bot] at h2
  exact lt_irrefl _ h2

section
open Cert.Pre_finite_KernelIdeal

variable (h : Facts) (x : FVec Ideal S512x1024 .f32) (wq : FVec Ideal S1024x1024 .f32) (k v : FVec Ideal S2048x32x128 .f32)
  (wo : FVec Ideal S1024x1024 .f32)

/-- The activations are real. -/
theorem finite_x (hp : (fn (F := Ideal) x wq k v wo).1 = fun _ => 1#1) (i : Fin 512) (t : Fin 1024) : Finite (x (ix2 i t)) := by
  have h := congrFun hp (ix2 i t)
  pointwise [fn] at h
  exact finite_of_abs_lt h

/-- The device's block of the query weights is real. -/
theorem finite_wq (hp : (fn (F := Ideal) x wq k v wo).2.1 = fun _ => 1#1) (t κ : Fin 1024) : Finite (wq (ix2 t κ)) := by
  have h := congrFun hp (ix2 t κ)
  pointwise [fn] at h
  exact finite_of_abs_lt h

/-- The keys are real. -/
theorem finite_k (hp : (fn (F := Ideal) x wq k v wo).2.2 = fun _ => 1#1) (j : Fin 2048) (h : Fin 32) (e : Fin 128) : Finite (k (ix3 j h e)) := by
  have h := congrFun hp (ix3 j h e)
  pointwise [fn] at h
  exact finite_of_abs_lt h

end

end Cert.Proof

end
-- ==== Proof.Value.lean ====
/-
  The value claim: on finite activations, query weights and keys every device of the kernel returns what the reference
  returns.
-/
module

public import proofs.«01_k».proof.Proof.Equal
public import proofs.«01_k».proof.Proof.Finite
public import proofs.«01_k».proof.Proof.Run
public import Idealize.ShloMosaic.Lib.LayoutAt

@[expose] public section

set_option maxRecDepth 16384

noncomputable section

namespace Cert.Proof

open Idealize.ShloMosaic Idealize.ShloMosaic.TcCoe Idealize.SL.Sem
open Cert.KernelIdeal (nD)
open Cert.KernelIdeal.Ring (args)
open Cert.Attn (Finite)

attribute [local instance] preFacts

/-- A device's block of the query weights, by columns. -/
theorem block_cols (w : FVec Ideal ⟨2, ![1024, 4096]⟩ .f32) (c : Dev nD) (t κ : Fin 1024) :
    Layout.block ⟨2, ![1024, 1024]⟩ ⟨2, ![1024, 4096]⟩ 1 4 c w (by decide) (ix2 t κ) = w (ix2 t (blockIx c κ)) := by
  shard_norm
  shard_ext

/-- A device's block of the output weights, by rows. -/
theorem block_rows (w : FVec Ideal ⟨2, ![4096, 1024]⟩ .f32) (c : Dev nD) (κ n : Fin 1024) :
    Layout.block ⟨2, ![1024, 1024]⟩ ⟨2, ![4096, 1024]⟩ 0 4 c w (by decide) (ix2 κ n) = w (ix2 (blockIx c κ) n) := by
  shard_norm
  shard_ext

/-- Kernel and reference compute the same function over the extended reals. -/
theorem algebraic : Cert.algebraic_KernelIdeal_ReferenceIdeal_pre_finite_KernelIdeal := by
  intro m g m' g' hp hm
  let x := m' (((0 : Dev Cert.ReferenceIdeal.nD).tc : Thread Cert.ReferenceIdeal.nD Cert.ReferenceIdeal.τ).loc Cert.ReferenceIdeal.main_arg0)
  let wq := m' (((0 : Dev Cert.ReferenceIdeal.nD).tc : Thread Cert.ReferenceIdeal.nD Cert.ReferenceIdeal.τ).loc Cert.ReferenceIdeal.main_arg1)
  let k := m' (((0 : Dev Cert.ReferenceIdeal.nD).tc : Thread Cert.ReferenceIdeal.nD Cert.ReferenceIdeal.τ).loc Cert.ReferenceIdeal.main_arg2)
  let v := m' (((0 : Dev Cert.ReferenceIdeal.nD).tc : Thread Cert.ReferenceIdeal.nD Cert.ReferenceIdeal.τ).loc Cert.ReferenceIdeal.main_arg3)
  let wo := m' (((0 : Dev Cert.ReferenceIdeal.nD).tc : Thread Cert.ReferenceIdeal.nD Cert.ReferenceIdeal.τ).loc Cert.ReferenceIdeal.main_arg4)
  have ax : ∀ c, (args m).x c = x := fun c => (hm c).1
  have aq : ∀ c (t κ : Fin 1024), (args m).wq c (ix2 t κ) = wq (ix2 t (blockIx c κ)) := fun c t κ =>
    (congrFun (hm c).2.1 (ix2 t κ)).trans (block_cols wq c t κ)
  have ak : ∀ c, (args m).k c = k := fun c => (hm c).2.2.1
  have av : ∀ c, (args m).v c = v := fun c => (hm c).2.2.2.1
  have ao : ∀ c (κ n : Fin 1024), (args m).wo c (ix2 κ n) = wo (ix2 (blockIx c κ) n) := fun c κ n =>
    (congrFun (hm c).2.2.2.2 (ix2 κ n)).trans (block_rows wo c κ n)
  have hx : ∀ (i : Fin 512) (t : Fin 1024), Finite (x (ix2 i t)) := fun i t =>
    congrFun (ax 0) (ix2 i t) ▸ finite_x _ _ _ _ _ _ (hp 0).1 i t
  have hk : ∀ (j : Fin 2048) (h : Fin 32) (e : Fin 128), Finite (k (ix3 j h e)) := fun j h e =>
    congrFun (ak 0) (ix3 j h e) ▸ finite_k _ _ _ _ _ _ (hp 0).2.2 j h e
  have hw : ∀ (t : Fin 1024) (κ : Fin 4096), Finite (wq (ix2 t κ)) := fun t κ => by
    let c : Dev nD := ⟨κ.val / 1024, by show κ.val / 1024 < 4; omega⟩
    let κ' : Fin 1024 := ⟨κ.val % 1024, by omega⟩
    have e : κ = blockIx c κ' := Fin.ext (by show κ.val = 1024 * (κ.val / 1024) + κ.val % 1024; omega)
    rw [e, ← aq c t κ']
    exact finite_wq _ _ _ _ _ _ (hp c).2.1 t κ'
  refine ⟨Cert.ReferenceIdeal.Attn.out x wq k v wo, ?_, ?_⟩
  · refine (θ_run _ _ _).mono (fun r h c => ?_) (Cert.KernelIdeal.Ring.run_out m g)
    obtain ⟨h0, h1⟩ := h.1 c
    exact ⟨h0.trans (out_eq x wq k v wo (args m) hx hw hk ax aq ak av ao c), h1⟩
  · exact (θ_run _ _ _).mono (fun r h => h 0) (Cert.ReferenceIdeal.Attn.run_out m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The certificate: the three frames (which hold on finite arguments too, as on any), that the ideal program is the
    kernel's own text, and that kernel and reference compute the same function over the extended reals. -/
theorem claim : Cert.Claim := ⟨Cert.Kernel.Gen.facts, Cert.KernelIdeal.Gen.facts, Cert.ReferenceIdeal.Gen.facts, preFacts, preFactsRef,
  frame_kernel, frame_ideal, fun m ρ _ => frame_ideal m ρ trivial, frame_reference, fun m ρ _ => frame_reference m ρ trivial,
  trivial, algebraic⟩

end Cert.Proof

end
